-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x20000x7 : Shape := ⟨3, ![4, 20000, 7]⟩
abbrev S4x128x7 : Shape := ⟨3, ![4, 128, 7]⟩
abbrev S4x128 : Shape := ⟨2, ![4, 128]⟩
abbrev S4x20000 : Shape := ⟨2, ![4, 20000]⟩
abbrev S_ : Shape := ⟨0, ![]⟩
abbrev S4x20000x6 : Shape := ⟨3, ![4, 20000, 6]⟩
abbrev S4x20480x6 : Shape := ⟨3, ![4, 20480, 6]⟩
abbrev S6x4x20480 : Shape := ⟨3, ![6, 4, 20480]⟩
abbrev S6x81920 : Shape := ⟨2, ![6, 81920]⟩
abbrev S4x20480x7 : Shape := ⟨3, ![4, 20480, 7]⟩
abbrev S7x4x20480 : Shape := ⟨3, ![7, 4, 20480]⟩
abbrev S7x81920 : Shape := ⟨2, ![7, 81920]⟩
abbrev S4x20480 : Shape := ⟨2, ![4, 20480]⟩
abbrev S81920 : Shape := ⟨1, ![81920]⟩
abbrev S4x7x128 : Shape := ⟨3, ![4, 7, 128]⟩
abbrev S4x896 : Shape := ⟨2, ![4, 896]⟩
abbrev S6x2560 : Shape := ⟨2, ![6, 2560]⟩
abbrev S7x2560 : Shape := ⟨2, ![7, 2560]⟩
abbrev S2560 : Shape := ⟨1, ![2560]⟩
abbrev S896 : Shape := ⟨1, ![896]⟩
abbrev S128 : Shape := ⟨1, ![128]⟩
abbrev S14336 : Shape := ⟨1, ![14336]⟩
abbrev S1x896 : Shape := ⟨2, ![1, 896]⟩
abbrev S1x128 : Shape := ⟨2, ![1, 128]⟩
abbrev S16 : Shape := ⟨1, ![16]⟩
abbrev S1 : Shape := ⟨1, ![1]⟩
abbrev S1x16 : Shape := ⟨2, ![1, 16]⟩
abbrev S7x4x20000 : Shape := ⟨3, ![7, 4, 20000]⟩

abbrev nBuf : Table → Nat
  | .hbm => 33
  | .local .scVector .vmem => 9
  | _ => 0

abbrev bufTy : (tb : Table) → Fin (nBuf tb) → BufTy
  | .hbm, ⟨0, _⟩ => ⟨S4x20000x7, .f32⟩
  | .hbm, ⟨1, _⟩ => ⟨S4x128x7, .f32⟩
  | .hbm, ⟨2, _⟩ => ⟨S4x128, .i32⟩
  | .hbm, ⟨3, _⟩ => ⟨S4x20000x7, .f32⟩
  | .hbm, ⟨4, _⟩ => ⟨S4x20000, .i32⟩
  | .hbm, ⟨5, _⟩ => ⟨S_, .i32⟩
  | .hbm, ⟨6, _⟩ => ⟨S4x20000x6, .f32⟩
  | .hbm, ⟨7, _⟩ => ⟨S_, .i32⟩
  | .hbm, ⟨8, _⟩ => ⟨S_, .f32⟩
  | .hbm, ⟨9, _⟩ => ⟨S4x20480x6, .f32⟩
  | .hbm, ⟨10, _⟩ => ⟨S6x4x20480, .f32⟩
  | .hbm, ⟨11, _⟩ => ⟨S6x81920, .f32⟩
  | .hbm, ⟨12, _⟩ => ⟨S_, .i32⟩
  | .hbm, ⟨13, _⟩ => ⟨S_, .f32⟩
  | .hbm, ⟨14, _⟩ => ⟨S4x20480x7, .f32⟩
  | .hbm, ⟨15, _⟩ => ⟨S7x4x20480, .f32⟩
  | .hbm, ⟨16, _⟩ => ⟨S7x81920, .f32⟩
  | .hbm, ⟨17, _⟩ => ⟨S_, .i32⟩
  | .hbm, ⟨18, _⟩ => ⟨S_, .i32⟩
  | .hbm, ⟨19, _⟩ => ⟨S4x20480, .i32⟩
  | .hbm, ⟨20, _⟩ => ⟨S81920, .i32⟩
  | .hbm, ⟨21, _⟩ => ⟨S4x7x128, .f32⟩
  | .hbm, ⟨22, _⟩ => ⟨S4x896, .f32⟩
  | .hbm, ⟨23, _⟩ => ⟨S7x81920, .f32⟩
  | .hbm, ⟨24, _⟩ => ⟨S81920, .i32⟩
  | .hbm, ⟨25, _⟩ => ⟨S81920, .f32⟩
  | .hbm, ⟨26, _⟩ => ⟨S7x4x20480, .f32⟩
  | .hbm, ⟨27, _⟩ => ⟨S7x4x20000, .f32⟩
  | .hbm, ⟨28, _⟩ => ⟨S4x20000x7, .f32⟩
  | .hbm, ⟨29, _⟩ => ⟨S4x20480, .i32⟩
  | .hbm, ⟨30, _⟩ => ⟨S4x20000, .i32⟩
  | .hbm, ⟨31, _⟩ => ⟨S4x20480, .f32⟩
  | .hbm, ⟨32, _⟩ => ⟨S4x20000, .f32⟩
  | .local .scVector .vmem, ⟨0, _⟩ => ⟨S6x2560, .f32⟩
  | .local .scVector .vmem, ⟨1, _⟩ => ⟨S7x2560, .f32⟩
  | .local .scVector .vmem, ⟨2, _⟩ => ⟨S2560, .i32⟩
  | .local .scVector .vmem, ⟨3, _⟩ => ⟨S896, .f32⟩
  | .local .scVector .vmem, ⟨4, _⟩ => ⟨S128, .i32⟩
  | .local .scVector .vmem, ⟨5, _⟩ => ⟨S14336, .f32⟩
  | .local .scVector .vmem, ⟨6, _⟩ => ⟨S7x2560, .f32⟩
  | .local .scVector .vmem, ⟨7, _⟩ => ⟨S2560, .i32⟩
  | .local .scVector .vmem, ⟨8, _⟩ => ⟨S2560, .f32⟩
  | _, _ => ⟨S4x20000x7, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v3_scv : Ref sig .scVector := ⟨.hbm, 11, rfl⟩
abbrev main_v6_scv : Ref sig .scVector := ⟨.hbm, 16, rfl⟩
abbrev main_v8_scv : Ref sig .scVector := ⟨.hbm, 20, rfl⟩
abbrev main_v10_scv : Ref sig .scVector := ⟨.hbm, 22, rfl⟩
abbrev main_arg2_scv : Ref sig .scVector := ⟨.hbm, 2, rfl⟩
abbrev main_v11_0_scv : Ref sig .scVector := ⟨.hbm, 23, rfl⟩
abbrev main_v11_1_scv : Ref sig .scVector := ⟨.hbm, 24, rfl⟩
abbrev main_v11_2_scv : Ref sig .scVector := ⟨.hbm, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_13_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  ![0, v2.toNat]
def k0_off2 (i : grid0.Coords) : Fin 2 → Nat :=
  let c0_i32_13_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  ![0, v2.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  ![v2.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c0_i32_13_r3 : BitVec 32 := 0#32
  ![v19.toNat, 0]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c0_i32_13_r4 : BitVec 32 := 0#32
  ![v19.toNat, 0]
@[reducible] def k0_t1_loop : Scf.Loop 32 :=
  let c0_i32_5 : BitVec 32 := 0#32
  let c8_i32_6 : BitVec 32 := 8#32
  let v20 : BitVec 32 := Scalar.addi c0_i32_5 c8_i32_6
  let c1_i32_7 : BitVec 32 := 1#32
  ⟨c0_i32_5, v20, c1_i32_7⟩
def k0_off6 (k0_t1 : Fin k0_t1_loop.trips) (c0_i32_13 : BitVec 32) : Fin 1 → Nat :=
  let c0_i32_5 : BitVec 32 := 0#32
  let c1_i32_7 : BitVec 32 := 1#32
  let arg19 : BitVec 32 := Scf.iv c0_i32_5 c1_i32_7 k0_t1
  let c16_i32 : BitVec 32 := 16#32
  let v24 : BitVec 32 := Scalar.muli arg19 c16_i32
  let v25 : BitVec 32 := Scalar.addi c0_i32_13 v24
  let v26 : Index := Scalar.indexCast v25
  ![v26.toNat]
def k0_off7 (k0_t1 : Fin k0_t1_loop.trips) (c0_i32_19 : BitVec 32) (c0_i32_20 : BitVec 32) : Fin 1 → Nat :=
  let c0_i32_5 : BitVec 32 := 0#32
  let c1_i32_7 : BitVec 32 := 1#32
  let arg19 : BitVec 32 := Scf.iv c0_i32_5 c1_i32_7 k0_t1
  let c16_i32 : BitVec 32 := 16#32
  let v24 : BitVec 32 := Scalar.muli arg19 c16_i32
  let v66 : BitVec 32 := Scalar.addi c0_i32_19 v24
  let v67 : BitVec 32 := Scalar.addi v66 c0_i32_20
  let c16_i32_21 : BitVec 32 := 16#32
  let v68 : BitVec 32 := Scalar.muli v67 c16_i32_21
  let v69 : Index := Scalar.indexCast v68
  ![v69.toNat]
@[reducible] def k0_t2_loop : Scf.Loop 32 :=
  let c0_i32_10 : BitVec 32 := 0#32
  let c160_i32 : BitVec 32 := 160#32
  let v22 : BitVec 32 := Scalar.addi c0_i32_10 c160_i32
  let c1_i32_11 : BitVec 32 := 1#32
  ⟨c0_i32_10, v22, c1_i32_11⟩
def k0_off8 (k0_t2 : Fin k0_t2_loop.trips) : Fin 2 → Nat :=
  let c0_i32_13 : BitVec 32 := 0#32
  let v25 : Index := Scalar.indexCast c0_i32_13
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v26 : Index := Scalar.indexCast v24
  ![0, v26.toNat]
def k0_off9 (k0_t2 : Fin k0_t2_loop.trips) : Fin 2 → Nat :=
  let c1_i32_14 : BitVec 32 := 1#32
  let v28 : Index := Scalar.indexCast c1_i32_14
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v29 : Index := Scalar.indexCast v24
  ![1, v29.toNat]
def k0_off10 (k0_t2 : Fin k0_t2_loop.trips) : Fin 2 → Nat :=
  let c2_i32_15 : BitVec 32 := 2#32
  let v31 : Index := Scalar.indexCast c2_i32_15
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v32 : Index := Scalar.indexCast v24
  ![2, v32.toNat]
def k0_off11 (k0_t2 : Fin k0_t2_loop.trips) : Fin 2 → Nat :=
  let c3_i32 : BitVec 32 := 3#32
  let v34 : Index := Scalar.indexCast c3_i32
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v35 : Index := Scalar.indexCast v24
  ![3, v35.toNat]
def k0_off12 (k0_t2 : Fin k0_t2_loop.trips) : Fin 2 → Nat :=
  let c4_i32 : BitVec 32 := 4#32
  let v37 : Index := Scalar.indexCast c4_i32
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v38 : Index := Scalar.indexCast v24
  ![4, v38.toNat]
def k0_off13 (k0_t2 : Fin k0_t2_loop.trips) : Fin 2 → Nat :=
  let c5_i32 : BitVec 32 := 5#32
  let v40 : Index := Scalar.indexCast c5_i32
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v41 : Index := Scalar.indexCast v24
  ![5, v41.toNat]
@[reducible] def k0_t3_loop : Scf.Loop 32 :=
  let c0_i32_23 : BitVec 32 := 0#32
  let c128_i32 : BitVec 32 := 128#32
  let v65 : BitVec 32 := Scalar.addi c0_i32_23 c128_i32
  let c1_i32_24 : BitVec 32 := 1#32
  ⟨c0_i32_23, v65, c1_i32_24⟩
def k0_off14 (k0_t3 : Fin k0_t3_loop.trips) (c384_i32_48 : BitVec 32) : Fin 1 → Nat :=
  let c0_i32_23 : BitVec 32 := 0#32
  let c1_i32_24 : BitVec 32 := 1#32
  let arg21 : BitVec 32 := Scf.iv c0_i32_23 c1_i32_24 k0_t3
  let v168 : BitVec 32 := Scalar.addi c384_i32_48 arg21
  let c16_i32_49 : BitVec 32 := 16#32
  let v169 : BitVec 32 := Scalar.muli v168 c16_i32_49
  let v170 : Index := Scalar.indexCast v169
  ![v170.toNat]
def k0_off15 (k0_t2 : Fin k0_t2_loop.trips) : Fin 1 → Nat :=
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v67 : Index := Scalar.indexCast v24
  ![v67.toNat]

def k0_chk1 (v77 : IVec S16 32) : Prop :=
  (∀ a x, ((![v77] : Fin 1 → IVec S16 32) a x).toNat < S896.size a)
theorem k0_idx1_inb : ∀ (v77 : IVec S16 32) (k0_hw1 : k0_chk1 v77), ∀ a x, ((![v77] : Fin 1 → IVec S16 32) a x).toNat < S896.size a := fun v77 k0_hw1 => k0_hw1
def k0_off16 (k0_t2 : Fin k0_t2_loop.trips) : Fin 2 → Nat :=
  let c0_i32_31 : BitVec 32 := 0#32
  let v79 : Index := Scalar.indexCast c0_i32_31
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v80 : Index := Scalar.indexCast v24
  ![0, v80.toNat]

def k0_chk2 (v88 : IVec S16 32) : Prop :=
  (∀ a x, ((![v88] : Fin 1 → IVec S16 32) a x).toNat < S896.size a)
theorem k0_idx2_inb : ∀ (v88 : IVec S16 32) (k0_hw2 : k0_chk2 v88), ∀ a x, ((![v88] : Fin 1 → IVec S16 32) a x).toNat < S896.size a := fun v88 k0_hw2 => k0_hw2
def k0_off17 (k0_t2 : Fin k0_t2_loop.trips) : Fin 2 → Nat :=
  let c1_i32_34 : BitVec 32 := 1#32
  let v90 : Index := Scalar.indexCast c1_i32_34
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v91 : Index := Scalar.indexCast v24
  ![1, v91.toNat]

def k0_chk3 (v99 : IVec S16 32) : Prop :=
  (∀ a x, ((![v99] : Fin 1 → IVec S16 32) a x).toNat < S896.size a)
theorem k0_idx3_inb : ∀ (v99 : IVec S16 32) (k0_hw3 : k0_chk3 v99), ∀ a x, ((![v99] : Fin 1 → IVec S16 32) a x).toNat < S896.size a := fun v99 k0_hw3 => k0_hw3
def k0_off18 (k0_t2 : Fin k0_t2_loop.trips) : Fin 2 → Nat :=
  let c2_i32_36 : BitVec 32 := 2#32
  let v101 : Index := Scalar.indexCast c2_i32_36
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v102 : Index := Scalar.indexCast v24
  ![2, v102.toNat]

def k0_chk4 (v110 : IVec S16 32) : Prop :=
  (∀ a x, ((![v110] : Fin 1 → IVec S16 32) a x).toNat < S896.size a)
theorem k0_idx4_inb : ∀ (v110 : IVec S16 32) (k0_hw4 : k0_chk4 v110), ∀ a x, ((![v110] : Fin 1 → IVec S16 32) a x).toNat < S896.size a := fun v110 k0_hw4 => k0_hw4
def k0_off19 (k0_t2 : Fin k0_t2_loop.trips) : Fin 2 → Nat :=
  let c3_i32_38 : BitVec 32 := 3#32
  let v112 : Index := Scalar.indexCast c3_i32_38
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v113 : Index := Scalar.indexCast v24
  ![3, v113.toNat]

def k0_chk5 (v121 : IVec S16 32) : Prop :=
  (∀ a x, ((![v121] : Fin 1 → IVec S16 32) a x).toNat < S896.size a)
theorem k0_idx5_inb : ∀ (v121 : IVec S16 32) (k0_hw5 : k0_chk5 v121), ∀ a x, ((![v121] : Fin 1 → IVec S16 32) a x).toNat < S896.size a := fun v121 k0_hw5 => k0_hw5
def k0_off20 (k0_t2 : Fin k0_t2_loop.trips) : Fin 2 → Nat :=
  let c4_i32_40 : BitVec 32 := 4#32
  let v123 : Index := Scalar.indexCast c4_i32_40
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v124 : Index := Scalar.indexCast v24
  ![4, v124.toNat]

def k0_chk6 (v132 : IVec S16 32) : Prop :=
  (∀ a x, ((![v132] : Fin 1 → IVec S16 32) a x).toNat < S896.size a)
theorem k0_idx6_inb : ∀ (v132 : IVec S16 32) (k0_hw6 : k0_chk6 v132), ∀ a x, ((![v132] : Fin 1 → IVec S16 32) a x).toNat < S896.size a := fun v132 k0_hw6 => k0_hw6
def k0_off21 (k0_t2 : Fin k0_t2_loop.trips) : Fin 2 → Nat :=
  let c5_i32_42 : BitVec 32 := 5#32
  let v134 : Index := Scalar.indexCast c5_i32_42
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v135 : Index := Scalar.indexCast v24
  ![5, v135.toNat]

def k0_chk7 (v143 : IVec S16 32) : Prop :=
  (∀ a x, ((![v143] : Fin 1 → IVec S16 32) a x).toNat < S896.size a)
theorem k0_idx7_inb : ∀ (v143 : IVec S16 32) (k0_hw7 : k0_chk7 v143), ∀ a x, ((![v143] : Fin 1 → IVec S16 32) a x).toNat < S896.size a := fun v143 k0_hw7 => k0_hw7
def k0_off22 (k0_t2 : Fin k0_t2_loop.trips) : Fin 2 → Nat :=
  let c6_i32 : BitVec 32 := 6#32
  let v147 : Index := Scalar.indexCast c6_i32
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v148 : Index := Scalar.indexCast v24
  ![6, v148.toNat]

def k0_chk8 (v66_1 : IVec S16 32) : Prop :=
  (∀ a x, ((![v66_1] : Fin 1 → IVec S16 32) a x).toNat < S128.size a)
theorem k0_idx8_inb : ∀ (v66_1 : IVec S16 32) (k0_hw8 : k0_chk8 v66_1), ∀ a x, ((![v66_1] : Fin 1 → IVec S16 32) a x).toNat < S128.size a := fun v66_1 k0_hw8 => k0_hw8
def k0_off23 (k0_t2 : Fin k0_t2_loop.trips) : Fin 1 → Nat :=
  let c0_i32_10 : BitVec 32 := 0#32
  let c1_i32_11 : BitVec 32 := 1#32
  let arg19 : BitVec 32 := Scf.iv c0_i32_10 c1_i32_11 k0_t2
  let c16_i32 : BitVec 32 := 16#32
  let v24 : BitVec 32 := Scalar.muli arg19 c16_i32
  let v161 : Index := Scalar.indexCast v24
  ![v161.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x20000x7 : Shape := ⟨3, ![4, 20000, 7]⟩
abbrev S4x128x7 : Shape := ⟨3, ![4, 128, 7]⟩
abbrev S4x128 : Shape := ⟨2, ![4, 128]⟩
abbrev S4x20000 : Shape := ⟨2, ![4, 20000]⟩
abbrev S_ : Shape := ⟨0, ![]⟩
abbrev S7 : Shape := ⟨1, ![7]⟩
abbrev S1 : Shape := ⟨1, ![1]⟩
abbrev S1x1x7 : Shape := ⟨3, ![1, 1, 7]⟩
abbrev S4x20000x3 : Shape := ⟨3, ![4, 20000, 3]⟩
abbrev S4x20000x1x3 : Shape := ⟨4, ![4, 20000, 1, 3]⟩
abbrev S4x128x3 : Shape := ⟨3, ![4, 128, 3]⟩
abbrev S4x1x128x3 : Shape := ⟨4, ![4, 1, 128, 3]⟩
abbrev S4x20000x128x3 : Shape := ⟨4, ![4, 20000, 128, 3]⟩
abbrev S4x20000x128x1 : Shape := ⟨4, ![4, 20000, 128, 1]⟩
abbrev S4x20000x128 : Shape := ⟨3, ![4, 20000, 128]⟩
abbrev S4x20000x1 : Shape := ⟨3, ![4, 20000, 1]⟩
abbrev S4x128x1 : Shape := ⟨3, ![4, 128, 1]⟩
abbrev S4x1x128 : Shape := ⟨3, ![4, 1, 128]⟩
abbrev S1x1x1 : Shape := ⟨3, ![1, 1, 1]⟩

abbrev nBuf : Space → Nat
  | .hbm => 159
  | .vmem => 0
  | .smem => 0
  | _ => 0

abbrev hbmTy0_0 (i : Nat) : BufTy := match i % 128 with
  | 0 => ⟨S4x20000x7, .f32⟩
  | 1 => ⟨S4x128x7, .f32⟩
  | 2 => ⟨S4x128, .i32⟩
  | 3 => ⟨S4x20000x7, .f32⟩
  | 4 => ⟨S4x20000, .i32⟩
  | 5 => ⟨S_, .i32⟩
  | 6 => ⟨S_, .f32⟩
  | 7 => ⟨S7, .f32⟩
  | 8 => ⟨S_, .i32⟩
  | 9 => ⟨S1, .i32⟩
  | 10 => ⟨S_, .f32⟩
  | 11 => ⟨S7, .f32⟩
  | 12 => ⟨S1x1x7, .f32⟩
  | 13 => ⟨S4x128x7, .f32⟩
  | 14 => ⟨S4x128x7, .f32⟩
  | 15 => ⟨S1x1x7, .f32⟩
  | 16 => ⟨S4x20000x7, .f32⟩
  | 17 => ⟨S4x20000x7, .f32⟩
  | 18 => ⟨S_, .i32⟩
  | 19 => ⟨S4x20000, .i32⟩
  | 20 => ⟨S4x20000, .i1⟩
  | 21 => ⟨S4x20000x3, .f32⟩
  | 22 => ⟨S4x20000x1x3, .f32⟩
  | 23 => ⟨S4x20000x3, .f32⟩
  | 24 => ⟨S4x20000x1x3, .f32⟩
  | 25 => ⟨S_, .f32⟩
  | 26 => ⟨S4x20000x1x3, .f32⟩
  | 27 => ⟨S4x20000x1x3, .f32⟩
  | 28 => ⟨S4x20000x1x3, .f32⟩
  | 29 => ⟨S4x20000x3, .f32⟩
  | 30 => ⟨S4x20000x1x3, .f32⟩
  | 31 => ⟨S4x20000x3, .f32⟩
  | 32 => ⟨S4x20000x1x3, .f32⟩
  | 33 => ⟨S_, .f32⟩
  | 34 => ⟨S4x20000x1x3, .f32⟩
  | 35 => ⟨S4x20000x1x3, .f32⟩
  | 36 => ⟨S4x20000x1x3, .f32⟩
  | 37 => ⟨S4x128x3, .f32⟩
  | 38 => ⟨S4x1x128x3, .f32⟩
  | 39 => ⟨S4x128x3, .f32⟩
  | 40 => ⟨S4x1x128x3, .f32⟩
  | 41 => ⟨S_, .f32⟩
  | 42 => ⟨S4x1x128x3, .f32⟩
  | 43 => ⟨S4x1x128x3, .f32⟩
  | 44 => ⟨S4x1x128x3, .f32⟩
  | 45 => ⟨S4x128x3, .f32⟩
  | 46 => ⟨S4x1x128x3, .f32⟩
  | 47 => ⟨S4x128x3, .f32⟩
  | 48 => ⟨S4x1x128x3, .f32⟩
  | 49 => ⟨S_, .f32⟩
  | 50 => ⟨S4x1x128x3, .f32⟩
  | 51 => ⟨S4x1x128x3, .f32⟩
  | 52 => ⟨S4x1x128x3, .f32⟩
  | 53 => ⟨S4x20000x128x3, .f32⟩
  | 54 => ⟨S4x20000x128x3, .f32⟩
  | 55 => ⟨S4x20000x128x3, .f32⟩
  | 56 => ⟨S4x20000x128x3, .f32⟩
  | 57 => ⟨S4x20000x128x3, .f32⟩
  | 58 => ⟨S4x20000x128x3, .f32⟩
  | 59 => ⟨S4x20000x128x3, .f32⟩
  | 60 => ⟨S_, .f32⟩
  | 61 => ⟨S_, .f32⟩
  | 62 => ⟨S4x20000x128x3, .f32⟩
  | 63 => ⟨S4x20000x128x3, .f32⟩
  | 64 => ⟨S4x20000x128x1, .f32⟩
  | 65 => ⟨S4x20000x128, .f32⟩
  | 66 => ⟨S4x20000x128x1, .f32⟩
  | 67 => ⟨S4x20000x128, .f32⟩
  | 68 => ⟨S4x20000x128, .f32⟩
  | 69 => ⟨S4x20000x128x1, .f32⟩
  | 70 => ⟨S4x20000x128, .f32⟩
  | 71 => ⟨S4x20000x128, .f32⟩
  | 72 => ⟨S4x20000x3, .f32⟩
  | 73 => ⟨S4x20000x1, .f32⟩
  | 74 => ⟨S4x20000, .f32⟩
  | 75 => ⟨S4x20000x1, .f32⟩
  | 76 => ⟨S4x20000, .f32⟩
  | 77 => ⟨S4x20000, .f32⟩
  | 78 => ⟨S4x20000x1, .f32⟩
  | 79 => ⟨S4x20000, .f32⟩
  | 80 => ⟨S4x20000, .f32⟩
  | 81 => ⟨S4x20000x1, .f32⟩
  | 82 => ⟨S4x128x3, .f32⟩
  | 83 => ⟨S4x128x1, .f32⟩
  | 84 => ⟨S4x128, .f32⟩
  | 85 => ⟨S4x128x1, .f32⟩
  | 86 => ⟨S4x128, .f32⟩
  | 87 => ⟨S4x128, .f32⟩
  | 88 => ⟨S4x128x1, .f32⟩
  | 89 => ⟨S4x128, .f32⟩
  | 90 => ⟨S4x128, .f32⟩
  | 91 => ⟨S4x1x128, .f32⟩
  | 92 => ⟨S4x20000x128, .f32⟩
  | 93 => ⟨S4x20000x128, .f32⟩
  | 94 => ⟨S4x20000x128, .f32⟩
  | 95 => ⟨S4x20000x128, .f32⟩
  | 96 => ⟨S_, .f32⟩
  | 97 => ⟨S4x20000x128, .f32⟩
  | 98 => ⟨S4x20000x128, .f32⟩
  | 99 => ⟨S4x20000x128, .f32⟩
  | 100 => ⟨S_, .f32⟩
  | 101 => ⟨S4x20000, .f32⟩
  | 102 => ⟨S4x20000x128, .i32⟩
  | 103 => ⟨S_, .f32⟩
  | 104 => ⟨S_, .i32⟩
  | 105 => ⟨S4x20000, .f32⟩
  | 106 => ⟨S4x20000, .i32⟩
  | 107 => ⟨S_, .i32⟩
  | 108 => ⟨S4x20000, .i32⟩
  | 109 => ⟨S4x20000, .i1⟩
  | 110 => ⟨S_, .i32⟩
  | 111 => ⟨S4x20000, .i32⟩
  | 112 => ⟨S4x20000, .i32⟩
  | 113 => ⟨S4x20000, .i32⟩
  | 114 => ⟨S4x20000x1, .i32⟩
  | 115 => ⟨S4x20000x7, .f32⟩
  | 116 => ⟨S_, .i32⟩
  | 117 => ⟨S4x20000, .i32⟩
  | 118 => ⟨S4x20000, .i1⟩
  | 119 => ⟨S_, .i32⟩
  | 120 => ⟨S4x20000, .i32⟩
  | 121 => ⟨S4x20000, .i32⟩
  | 122 => ⟨S4x20000, .i32⟩
  | 123 => ⟨S4x20000x1, .i32⟩
  | 124 => ⟨S1, .i32⟩
  | 125 => ⟨S_, .i32⟩
  | 126 => ⟨S4x20000x1, .i32⟩
  | 127 => ⟨S4x20000x1, .i1⟩
  | _ => ⟨S4x20000x7, .f32⟩

abbrev hbmTy0_1 (i : Nat) : BufTy := match i % 128 with
  | 0 => ⟨S1x1x1, .i32⟩
  | 1 => ⟨S4x20000x1, .i32⟩
  | 2 => ⟨S4x20000x1, .i1⟩
  | 3 => ⟨S4x20000x1, .i1⟩
  | 4 => ⟨S_, .i1⟩
  | 5 => ⟨S4x20000, .i1⟩
  | 6 => ⟨S4x20000, .i32⟩
  | 7 => ⟨S_, .i32⟩
  | 8 => ⟨S4x20000, .i32⟩
  | 9 => ⟨S4x20000, .i32⟩
  | 10 => ⟨S4x20000, .i1⟩
  | 11 => ⟨S_, .f32⟩
  | 12 => ⟨S4x20000, .f32⟩
  | 13 => ⟨S4x20000, .i1⟩
  | 14 => ⟨S4x20000, .i1⟩
  | 15 => ⟨S4x20000x1, .i1⟩
  | 16 => ⟨S4x20000x1, .i1⟩
  | 17 => ⟨S_, .f32⟩
  | 18 => ⟨S_, .f32⟩
  | 19 => ⟨S4x20000x7, .i1⟩
  | 20 => ⟨S4x20000x7, .f32⟩
  | 21 => ⟨S4x20000x7, .f32⟩
  | 22 => ⟨S4x20000x7, .i1⟩
  | 23 => ⟨S4x20000x7, .f32⟩
  | 24 => ⟨S_, .i32⟩
  | 25 => ⟨S_, .i32⟩
  | 26 => ⟨S4x20000, .i32⟩
  | 27 => ⟨S4x20000, .i32⟩
  | 28 => ⟨S4x20000, .i32⟩
  | 29 => ⟨S4x20000, .i1⟩
  | 30 => ⟨S4x20000, .f32⟩
  | _ => ⟨S4x20000x7, .f32⟩

abbrev hbmTy (i : Nat) : BufTy := match i / 128 with
  | 0 => hbmTy0_0 i
  | 1 => hbmTy0_1 i
  | _ => ⟨S4x20000x7, .f32⟩

abbrev bufTy : (tb : Table) → Fin (tcTables nBuf tb) → BufTy
  | .hbm, ⟨i, _⟩ => hbmTy i
  | _, _ => ⟨S4x20000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_call0_v0 : Ref sig .tc := ⟨.hbm, 61, rfl⟩
abbrev main_call0_v1 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_7 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_8 : Ref sig .tc := ⟨.hbm, 100, rfl⟩
abbrev main_v82 : Ref sig .tc := ⟨.hbm, 101, rfl⟩
abbrev main_call1_v0 : Ref sig .tc := ⟨.hbm, 102, rfl⟩
abbrev main_call1_cst : Ref sig .tc := ⟨.hbm, 103, rfl⟩
abbrev main_call1_c : Ref sig .tc := ⟨.hbm, 104, rfl⟩
abbrev main_call1_v1_0 : Ref sig .tc := ⟨.hbm, 105, rfl⟩
abbrev main_v83 : Ref sig .tc := ⟨.hbm, 106, rfl⟩
abbrev main_c_9 : Ref sig .tc := ⟨.hbm, 107, rfl⟩
abbrev main_v84 : Ref sig .tc := ⟨.hbm, 108, rfl⟩
abbrev main_v85 : Ref sig .tc := ⟨.hbm, 109, rfl⟩
abbrev main_c_10 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_call2_c : Ref sig .tc := ⟨.hbm, 116, rfl⟩
abbrev main_call2_v0 : Ref sig .tc := ⟨.hbm, 117, rfl⟩
abbrev main_call2_v1 : Ref sig .tc := ⟨.hbm, 118, rfl⟩
abbrev main_call2_c_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_c_1 : Ref sig .tc := ⟨.hbm, 124, rfl⟩
abbrev main_call2_c_2 : Ref sig .tc := ⟨.hbm, 125, rfl⟩
abbrev main_call2_v6 : Ref sig .tc := ⟨.hbm, 126, rfl⟩
abbrev main_call2_v7 : Ref sig .tc := ⟨.hbm, 127, rfl⟩
abbrev main_call2_v8 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_c_3 : Ref sig .tc := ⟨.hbm, 132, rfl⟩
abbrev main_call2_v12 : Ref sig .tc := ⟨.hbm, 133, rfl⟩
abbrev main_call2_v13 : Ref sig .tc := ⟨.hbm, 134, rfl⟩
abbrev main_call2_c_4 : Ref sig .tc := ⟨.hbm, 135, rfl⟩
abbrev main_call2_v14 : Ref sig .tc := ⟨.hbm, 136, rfl⟩
abbrev main_v91 : Ref sig .tc := ⟨.hbm, 137, rfl⟩
abbrev main_v92 : Ref sig .tc := ⟨.hbm, 138, rfl⟩
abbrev main_cst_11 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_12 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_v98 : Ref sig .tc := ⟨.hbm, 149, rfl⟩
abbrev main_call4_v0 : Ref sig .tc := ⟨.hbm, 150, rfl⟩
abbrev main_v99 : Ref sig .tc := ⟨.hbm, 151, rfl⟩
abbrev main_c_13 : Ref sig .tc := ⟨.hbm, 152, rfl⟩
abbrev main_call5_v0 : Ref sig .tc := ⟨.hbm, 153, rfl⟩
abbrev main_call5_v1 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩

abbrev nD : Nat := 1
abbrev τ : Topo := Topo.v7x

variable {F : FTy → Type} [FloatOps F]
-- ==== Proof.Ideal.Common.lean ====
/-
  The program as the launch theorem sees it: its SparseCore configuration, its table of bodies, and the resource
  algebra the proof works in, which puts the local copies' counters beside the handshakes' rounds.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ViewIndex
public import Idealize.ShloMosaic.Lib.WordArith.Masks
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The semaphores of the handshakes differ and no scratch buffer is shared between subcores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub_zero : (K (F := F)).nSub 0 = 16 := rfl
theorem nCore_zero : (K (F := F)).nCore 0 = 2 := rfl

abbrev UH : Type := URounds (GSem nD τ sig) ℕ
abbrev UU : Type := UH × Counters

/-- The model the assertions live in. -/
abbrev MM (F : FTy → Type) : Type := MT nD τ sig (HIx 1) (Elt F) ℕ UU ℕ

/-- Where the handshakes' rounds sit in the algebra: its left factor. -/
abbrev EH : Emb UH (MM F) := embL

/-- The thread that runs the task at grid position `i` on device `d`. -/
abbrev thr (d : Dev nD) (i : grid0.Coords) : Thread nD τ := V d ((i 0).castLE hcore0) ((i 1).castLE hsub0)

end Cert.Proof.Ideal

end
-- ==== Proof.Values.lean ====
/-
  What the kernel computes, element by element, in the operations of any float instance: the overlap of two boxes, the
  scan over the ground-truth boxes for the best one, and the three results of one region of interest.
-/
module

public import Idealize.ShloMosaic.PureOps
public import Idealize.ShloMosaic.Lib.Pointwise.Index

@[expose] public section

noncomputable section

namespace Cert.Proof.Values

open Idealize.ShloMosaic

variable {F : FTy → Type} [FloatOps F]

/-- The constants: one half, zero, the denominator's `1e-8`, the threshold `0.3`, and the `-1` a scan starts from. -/
def half : F .f32 := Scalar.ofBits .f32 0x3F000000#32
def zero : F .f32 := Scalar.ofBits .f32 0x00000000#32
def eps : F .f32 := Scalar.ofBits .f32 0x322BCC77#32
def thr : F .f32 := Scalar.ofBits .f32 0x3E99999A#32
def neg1 : F .f32 := Scalar.ofBits .f32 0xBF800000#32

/-- The lower and the upper face of an interval of centre `x` and extent `d`, and a box's volume. -/
def lo (x d : F .f32) : F .f32 := FloatOps.subf x (FloatOps.mulf d half)
def hi (x d : F .f32) : F .f32 := FloatOps.addf x (FloatOps.mulf d half)
def vol (a b c : F .f32) : F .f32 := FloatOps.mulf (FloatOps.mulf a b) c

/-- The seven values tabulated for a ground-truth box: its three lower faces, its three upper faces, its volume. -/
def der (g : Fin 7 → F .f32) (d : Fin 7) : F .f32 :=
  match d with
  | 0 => lo (g 0) (g 3)
  | 1 => lo (g 1) (g 4)
  | 2 => lo (g 2) (g 5)
  | 3 => hi (g 0) (g 3)
  | 4 => hi (g 1) (g 4)
  | 5 => hi (g 2) (g 5)
  | 6 => vol (g 3) (g 4) (g 5)

/-- The overlap of two intervals, zero where they are disjoint. -/
def side (h₁ h₂ l₁ l₂ : F .f32) : F .f32 :=
  FloatOps.maximumf (FloatOps.subf (FloatOps.minimumf h₁ h₂) (FloatOps.maximumf l₁ l₂)) zero

/-- The volume of the intersection of the region `r` (centre and extents) with the box tabulated as `t`. -/
def inter (r : Fin 6 → F .f32) (t : Fin 7 → F .f32) : F .f32 :=
  FloatOps.mulf (FloatOps.mulf (side (hi (r 0) (r 3)) (t 3) (lo (r 0) (r 3)) (t 0)) (side (hi (r 1) (r 4)) (t 4) (lo (r 1) (r 4)) (t 1)))
    (side (hi (r 2) (r 5)) (t 5) (lo (r 2) (r 5)) (t 2))

/-- Intersection over union, from the intersection `I` and the two volumes. -/
def ratio (I vr vg : F .f32) : F .f32 :=
  FloatOps.divf I (FloatOps.addf (FloatOps.subf (FloatOps.addf vr vg) I) eps)

/-- Intersection over union of the region `r` with the box tabulated as `t`. -/
def iouT (r : Fin 6 → F .f32) (t : Fin 7 → F .f32) : F .f32 := ratio (inter r t) (vol (r 3) (r 4) (r 5)) (t 6)

/-- One step of the scan: the value `v` at position `g` replaces the best so far if it is greater. -/
def scanStep (v : F .f32) (g : Fin 128) (p : F .f32 × Fin 128) : F .f32 × Fin 128 :=
  if FloatOps.cmpf .ogt v p.1 = 1#1 then (v, g) else p

/-- The scan of the values `v` at the positions below `n`, from `-1` at position `0`. -/
def scan (v : Fin 128 → F .f32) : ℕ → F .f32 × Fin 128
  | 0 => (neg1, 0)
  | n + 1 => if h : n < 128 then scanStep (v ⟨n, h⟩) ⟨n, h⟩ (scan v n) else scan v n

/-- The scan of a region against all 128 boxes: the best overlap and where it is. -/
def best (r : Fin 6 → F .f32) (gs : Fin 128 → Fin 7 → F .f32) : F .f32 × Fin 128 :=
  scan (fun g => iouT r (der (gs g))) 128

/-- The region's stage-one label is not negative. -/
def pos (lab : BitVec 32) : BitVec 1 := IntOp.cmpi .sge lab 0#32

/-- The region is not positive at stage one, and its best overlap reaches the threshold. -/
def two (lab : BitVec 32) (b : F .f32) : BitVec 1 := IntOp.andi (IntOp.xori (pos lab) 1#1) (FloatOps.cmpf .oge b thr)

/-- The one of three values that the two conditions choose. -/
def pick {α : Type} (p t : BitVec 1) (a b c : α) : α := Scalar.select p a (Scalar.select t b c)

/-- The sign a coordinate goes out with: the seventh (the yaw) is negated. -/
def sgn (c : Fin 7) (x : F .f32) : F .f32 := if c = 6 then FloatOps.subf zero x else x

/-- The assigned box of a region, coordinate by coordinate. -/
def outBox (r : Fin 6 → F .f32) (a : Fin 7 → F .f32) (lab : BitVec 32) (gs : Fin 128 → Fin 7 → F .f32) (c : Fin 7) : F .f32 :=
  pick (pos lab) (two lab (best r gs).1) (sgn c (a c)) (sgn c (gs (best r gs).2 c)) zero

/-- The assigned label of a region. -/
def outLab (r : Fin 6 → F .f32) (lab : BitVec 32) (gs : Fin 128 → Fin 7 → F .f32) (gl : Fin 128 → BitVec 32) : BitVec 32 :=
  pick (pos lab) (two lab (best r gs).1) lab (gl (best r gs).2) 11#32

/-- Whether the region's assignment counts, as a float. -/
def outMask (r : Fin 6 → F .f32) (lab : BitVec 32) (gs : Fin 128 → Fin 7 → F .f32) : F .f32 :=
  FloatOps.sitofp .f32 ((IntOp.ori (pos lab) (two lab (best r gs).1)).setWidth 32)

/-- Box `g` of a flat table of 128 boxes, its coordinates 128 apart. -/
def gtBox (X : (⟨1, ![896]⟩ : Shape).Idx → F .f32) (g : Fin 128) : Fin 7 → F .f32 :=
  fun c => X (ix1 ⟨c.val * 128 + g.val, by omega⟩)

/-- The tabulated values of the boxes `X`, each repeated over sixteen lanes. -/
def table (X : (⟨1, ![896]⟩ : Shape).Idx → F .f32) : (⟨1, ![14336]⟩ : Shape).Idx → F .f32 :=
  fun y => der (gtBox X ⟨(y 0).val / 16 % 128, Nat.mod_lt _ (by decide)⟩)
    ⟨(y 0).val / 16 / 128, by have h : (y 0).val < 14336 := (y 0).isLt; omega⟩

/-- Column `n` of a matrix. -/
def col {α : Type} {r c : ℕ} (X : (⟨2, ![r, c]⟩ : Shape).Idx → α) (n : Fin c) : Fin r → α := fun i => X (ix2 i n)

end Cert.Proof.Values

end
-- ==== Proof.Ideal.Fill.lean ====
module

public import proofs.«01_k».proof.Proof.Ideal.Common
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

/-- Row `r` of the sixteen boxes that trip `k` handles. -/
def rows (m : Memref sig .scVector .vmem S896 .f32) (g : m.view.ty.Contents (Elt F)) (k : Fin k0_t1_loop.trips) (r : Fin 7) : S16.Idx → F .f32 :=
  if h : r.val < 6 then m.view.readAt (Elt F) (Rect.unit (s := S896) (k0_off6 k (BitVec.ofNat 32 (128 * r.val))) S16.size (k0_off6_inb k ⟨r.val, h⟩)).toLoadRect g
  else fun _ => zero

/-- The lane `l`, as the kernel's extractions index it. -/
def lane (l : Fin 16) : S16.Idx := fun a => ⟨(![l.val] : Fin 1 → ℕ) a + (![0] : Fin 1 → ℕ) a, by
  have h : a = 0 := Subsingleton.elim _ _
  subst h
  exact l.isLt⟩

/-- The value that store `n` of trip `k` repeats over sixteen lanes: value `n / 16` of the trip's box `n % 16`. -/
def piece (m : Memref sig .scVector .vmem S896 .f32) (g : m.view.ty.Contents (Elt F)) (k : Fin k0_t1_loop.trips) (n : ℕ) : View.Piece (Elt F) S14336 .f32 :=
  ⟨Rect.unit (s := S14336) (k0_off7 k (BitVec.ofNat 32 (128 * (n / 16 % 7))) (BitVec.ofNat 32 (n % 16))) S16.size
      (k0_off7_inb k ⟨n / 16 % 7, Nat.mod_lt _ (by decide)⟩ ⟨n % 16, Nat.mod_lt _ (by decide)⟩),
    fun _ => der (fun r => rows m g k r (lane ⟨n % 16, Nat.mod_lt _ (by decide)⟩)) ⟨n / 16 % 7, Nat.mod_lt _ (by decide)⟩⟩

/-- The first `n` stores of a trip, the last one first. -/
def pieces (m : Memref sig .scVector .vmem S896 .f32) (g : m.view.ty.Contents (Elt F)) (k : Fin k0_t1_loop.trips) : ℕ → List (View.Piece (Elt F) S14336 .f32)
  | 0 => []
  | n + 1 => piece m g k n :: pieces m g k n

/-- What the first `n` trips leave: the table's entries of the first `16 n` boxes. -/
def Filled (m : Memref sig .scVector .vmem S896 .f32) (g : m.view.ty.Contents (Elt F)) (t : Memref sig .scVector .vmem S14336 .f32) (n : ℕ) (f : t.view.ty.Contents (Elt F)) : Prop :=
  ∀ y : S14336.Idx, (y 0).val / 16 % 128 < 16 * n → t.view.read (Elt F) f y = table (m.view.read (Elt F) g) y

theorem der_congr {f g : Fin 7 → F .f32} (h : ∀ r : Fin 7, r.val < 6 → f r = g r) (d : Fin 7) : der f d = der g d := by
  have h0 := h 0 (by decide); have h1 := h 1 (by decide); have h2 := h 2 (by decide)
  have h3 := h 3 (by decide); have h4 := h 4 (by decide); have h5 := h 5 (by decide)
  fin_cases d <;> simp only [der, h0, h1, h2, h3, h4, h5]

theorem t1_lt (k : Fin k0_t1_loop.trips) : k.val < 8 := Nat.lt_of_lt_of_le k.isLt k0_t1_abs.2.1

/-- A loaded row holds its coordinate of the trip's sixteen boxes. -/
theorem rows_apply (m : Memref sig .scVector .vmem S896 .f32) (g : m.view.ty.Contents (Elt F)) (k : Fin k0_t1_loop.trips) (r : Fin 7) (hr : r.val < 6) (x : S16.Idx) (b : Fin 128) (hb : b.val = 16 * k.val + (x 0).val) :
    rows m g k r x = gtBox (m.view.read (Elt F) g) b r := by
  unfold rows gtBox
  rw [dif_pos hr, View.readAt_apply]
  congr 1
  apply Shape.idx1_ext
  rw [LoadRect.idx_apply]
  show k0_off6 k (BitVec.ofNat 32 (128 * r.val)) 0 + 1 * (x 0).val = r.val * 128 + b.val
  have e := congrFun (k0_off6_eq k ⟨r.val, hr⟩) 0
  have e' : k0_off6 k (BitVec.ofNat 32 (128 * r.val)) 0 = 128 * r.val + 16 * k.val := e
  omega

/-- Where a stored piece lies. -/
theorem piece_off (m : Memref sig .scVector .vmem S896 .f32) (g : m.view.ty.Contents (Elt F)) (k : Fin k0_t1_loop.trips) (n : ℕ) :
    (piece m g k n).1.off (0 : Fin 1) = 2048 * (n / 16 % 7) + 256 * k.val + 16 * (n % 16) :=
  congrFun (k0_off7_eq k ⟨n / 16 % 7, Nat.mod_lt _ (by decide)⟩ ⟨n % 16, Nat.mod_lt _ (by decide)⟩) 0

/-- A stored piece agrees with the table. -/
theorem piece_ok (m : Memref sig .scVector .vmem S896 .f32) (g : m.view.ty.Contents (Elt F)) (k : Fin k0_t1_loop.trips) (n : ℕ) (x : (piece m g k n).1.shape.Idx) :
    (piece m g k n).2 x = table (m.view.read (Elt F) g) ((piece m g k n).1.emb x) := by
  have hk := t1_lt k
  have hx : (x (0 : Fin 1)).val < 16 := (x (0 : Fin 1)).isLt
  have e : ((piece m g k n).1.emb x (0 : Fin 1)).val = 2048 * (n / 16 % 7) + 256 * k.val + 16 * (n % 16) + (x (0 : Fin 1)).val := by
    rw [Rect.emb_apply]
    show (piece m g k n).1.off (0 : Fin 1) + 1 * (x (0 : Fin 1)).val = _
    rw [piece_off]; omega
  show der (fun r => rows m g k r (lane ⟨n % 16, Nat.mod_lt _ (by decide)⟩)) ⟨n / 16 % 7, Nat.mod_lt _ (by decide)⟩ = _
  unfold table
  have ed : (⟨n / 16 % 7, Nat.mod_lt _ (by decide)⟩ : Fin 7) = ⟨((piece m g k n).1.emb x (0 : Fin 1)).val / 16 / 128, by
      have h : ((piece m g k n).1.emb x (0 : Fin 1)).val < 14336 := ((piece m g k n).1.emb x (0 : Fin 1)).isLt
      omega⟩ := Fin.ext (by show n / 16 % 7 = _ / 16 / 128; omega)
  rw [ed]
  refine der_congr (fun r hr => rows_apply m g k r hr _ _ ?_) _
  show ((piece m g k n).1.emb x (0 : Fin 1)).val / 16 % 128 = 16 * k.val + (n % 16 + 0)
  omega

theorem mem_pieces (m : Memref sig .scVector .vmem S896 .f32) (g : m.view.ty.Contents (Elt F)) (k : Fin k0_t1_loop.trips) (p : View.Piece (Elt F) S14336 .f32) :
    ∀ N : ℕ, p ∈ pieces m g k N ↔ ∃ n < N, p = piece m g k n
  | 0 => by simp [pieces]
  | N + 1 => by
    rw [pieces, List.mem_cons, mem_pieces m g k p N]
    constructor
    · rintro (h | ⟨n, hn, h⟩)
      · exact ⟨N, by omega, h⟩
      · exact ⟨n, by omega, h⟩
    · rintro ⟨n, hn, h⟩
      rcases Nat.lt_succ_iff_lt_or_eq.mp hn with hn | rfl
      · exact .inr ⟨n, hn, h⟩
      · exact .inl h

/-- A trip adds its sixteen boxes to the table. -/
theorem filled_step (m : Memref sig .scVector .vmem S896 .f32) (g : m.view.ty.Contents (Elt F)) (t : Memref sig .scVector .vmem S14336 .f32) (k : Fin k0_t1_loop.trips) (f : t.view.ty.Contents (Elt F))
    (h : Filled m g t k.val f) : Filled m g t (k.val + 1) (t.view.writes (Elt F) f (pieces m g k 112)) := by
  intro y hy
  have hk := t1_lt k
  have hy' : (y 0).val < 14336 := (y 0).isLt
  by_cases hc : ∃ p ∈ pieces m g k 112, y ∈ p.1.set
  · refine View.read_writes_apply_of_pieces _ f _ _ (fun p hp x => ?_) y hc
    obtain ⟨n, -, rfl⟩ := (mem_pieces m g k p 112).mp hp
    exact piece_ok m g k n x
  · have hn : ∀ p ∈ pieces m g k 112, y ∉ p.1.set := fun p hp hy => hc ⟨p, hp, hy⟩
    rw [View.read_writes_apply_of_forall_not_mem _ f y _ hn]
    refine h y (Nat.lt_of_not_le fun hge => ?_)
    have hlt : (y 0).val / 16 / 128 * 16 + ((y 0).val / 16 % 128 - 16 * k.val) < 112 := by omega
    refine hn _ ((mem_pieces m g k _ 112).mpr ⟨_, hlt, rfl⟩) ?_
    refine (Rect.mem_set_unit (inb := k0_off7_inb k ⟨_, Nat.mod_lt _ (by decide)⟩ ⟨_, Nat.mod_lt _ (by decide)⟩)).mpr fun a => ?_
    obtain rfl : a = 0 := Subsingleton.elim _ _
    have e := piece_off m g k ((y 0).val / 16 / 128 * 16 + ((y 0).val / 16 % 128 - 16 * k.val))
    have e' : k0_off7 k (BitVec.ofNat 32 (128 * (((y 0).val / 16 / 128 * 16 + ((y 0).val / 16 % 128 - 16 * k.val)) / 16 % 7)))
      (BitVec.ofNat 32 (((y 0).val / 16 / 128 * 16 + ((y 0).val / 16 % 128 - 16 * k.val)) % 16)) 0 = _ := e
    rw [e']
    show _ ∧ (y 0).val < _ + 16
    omega

variable (i : grid0.Coords) (arg2 : Memref sig .scVector .hbm S6x81920 .f32) (harg2 : arg2.IsWhole) (arg3 : Memref sig .scVector .hbm S7x81920 .f32) (harg3 : arg3.IsWhole) (arg4 : Memref sig .scVector .hbm S81920 .i32) (harg4 : arg4.IsWhole) (arg5 : Memref sig .scVector .hbm S4x896 .f32) (harg5 : arg5.IsWhole) (arg6 : Memref sig .scVector .hbm S4x128 .i32) (harg6 : arg6.IsWhole) (arg7 : Memref sig .scVector .hbm S7x81920 .f32) (harg7 : arg7.IsWhole) (arg8 : Memref sig .scVector .hbm S81920 .i32) (harg8 : arg8.IsWhole) (arg9 : Memref sig .scVector .hbm S81920 .f32) (harg9 : arg9.IsWhole) (arg10 : Memref sig .scVector .vmem S6x2560 .f32) (harg10 : arg10.IsWhole) (arg11 : Memref sig .scVector .vmem S7x2560 .f32) (harg11 : arg11.IsWhole) (arg12 : Memref sig .scVector .vmem S2560 .i32) (harg12 : arg12.IsWhole) (arg13 : Memref sig .scVector .vmem S896 .f32) (harg13 : arg13.IsWhole) (arg14 : Memref sig .scVector .vmem S128 .i32) (harg14 : arg14.IsWhole) (arg15 : Memref sig .scVector .vmem S14336 .f32) (harg15 : arg15.IsWhole) (arg16 : Memref sig .scVector .vmem S7x2560 .f32) (harg16 : arg16.IsWhole) (arg17 : Memref sig .scVector .vmem S2560 .i32) (harg17 : arg17.IsWhole) (arg18 : Memref sig .scVector .vmem S2560 .f32) (harg18 : arg18.IsWhole) (v24_r0 : DmaSems sig S_) (v24_r1 : DmaSems sig S_) (v24_r2 : DmaSems sig S_) (v24_r3 : DmaSems sig S_) (v24_r4 : DmaSems sig S_) (v24_r5 : DmaSems sig S_) (v24_r6 : DmaSems sig S_) (v24_r7 : DmaSems sig S_)

set_option maxHeartbeats 4000000 in
set_option maxRecDepth 4000 in
theorem fill_trip (d : Dev nD) (k : Fin k0_t1_loop.trips) (a : BitVec 32) (g : Buf (Elt F) (arg13.view.loc (thr d i))) (f : Buf (Elt F) (arg15.view.loc (thr d i))) :
    iprop((arg13.view.loc (thr d i) ↦{fullShare} g) ∗ arg15.view.loc (thr d i) ↦{fullShare} f)
      ⊢ (wp frame (wpE (defs₀ (F := F)) 𝒱₀ (thr d i) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24_r0 v24_r1 v24_r2 v24_r3 v24_r4 v24_r5 v24_r6 v24_r7 k a)
          fun _ => iprop((arg13.view.loc (thr d i) ↦{fullShare} g) ∗ arg15.view.loc (thr d i) ↦{fullShare} arg15.view.writes (Elt F) f (pieces arg13 g k 112)) : sProp 𝕄) := by
  unfold k0_t1_body
  iintro ⟨Hg, Hf⟩
  sl_exec
  sl_step
  isplitl [Hg]
  · iexact Hg
  · iexact Hf

end Cert.Proof.Ideal

end
-- ==== Proof.Ideal.Scan.lean ====
module

public import proofs.«01_k».proof.Proof.Ideal.Fill
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

/-- Row `d` of the table's entries for box `k`. -/
def trow (t : Memref sig .scVector .vmem S14336 .f32) (f : t.view.ty.Contents (Elt F)) (k : Fin k0_t3_loop.trips) (d : Fin 7) : S16.Idx → F .f32 :=
  t.view.readAt (Elt F) (Rect.unit (s := S14336) (k0_off14 k (BitVec.ofNat 32 (128 * d.val))) S16.size (k0_off14_inb k d)).toLoadRect f

theorem t3_lt (k : Fin k0_t3_loop.trips) : k.val < 128 := Nat.lt_of_lt_of_le k.isLt k0_t3_abs.2.1

/-- Every lane of a table row holds the tabulated value of the trip's box. -/
theorem trow_eq (t : Memref sig .scVector .vmem S14336 .f32) (f : t.view.ty.Contents (Elt F)) (X : S896.Idx → F .f32) (hf : ∀ y, t.view.read (Elt F) f y = table X y)
    (k : Fin k0_t3_loop.trips) (d : Fin 7) : trow t f k d = fun _ => der (gtBox X ⟨k.val, t3_lt k⟩) d := by
  funext x
  have hk := t3_lt k
  have hx : (x 0).val < 16 := (x 0).isLt
  unfold trow
  rw [View.readAt_apply, hf]
  unfold table
  have e : ((Rect.unit (s := S14336) (k0_off14 k (BitVec.ofNat 32 (128 * d.val))) S16.size (k0_off14_inb k d)).toLoadRect.idx x 0).val
      = 2048 * d.val + 16 * k.val + (x 0).val := by
    rw [LoadRect.idx_apply]
    show k0_off14 k (BitVec.ofNat 32 (128 * d.val)) 0 + 1 * (x 0).val = _
    rw [k0_off14_eq k d, Nat.one_mul]; rfl
  congr 1
  · congr 1; apply Fin.ext; show _ / 16 % 128 = k.val; rw [e]; omega
  · apply Fin.ext; show _ / 16 / 128 = d.val; rw [e]; omega

/-- The values a lane's region compares: its overlap with each box. -/
def vals (R : S16.Idx → Fin 6 → F .f32) (X : S896.Idx → F .f32) (x : S16.Idx) (g : Fin 128) : F .f32 := iouT (R x) (der (gtBox X g))

/-- What the scan carries before box `n`: lane by lane, the best overlap so far and its position. -/
def carried (R : S16.Idx → Fin 6 → F .f32) (X : S896.Idx → F .f32) (n : ℕ) : FVec F S16 .f32 × IVec S16 32 :=
  (fun x => (scan (vals R X x) n).1, fun x => BitVec.ofNat 32 (scan (vals R X x) n).2.val)

/-- One step of the scan, as the kernel computes it from the rows it loads. -/
theorem carried_succ (R : S16.Idx → Fin 6 → F .f32) (X : S896.Idx → F .f32) (k : Fin k0_t3_loop.trips) (v w : FVec F S16 .f32)
    (hv : ∀ x, v x = inter (R x) (der (gtBox X ⟨k.val, t3_lt k⟩))) (hw : ∀ x, w x = vol (R x 3) (R x 4) (R x 5)) :
    (k0_pay137 w (carried R X k.val).1 v (fun _ => der (gtBox X ⟨k.val, t3_lt k⟩) 6),
      k0_pay138 w (carried R X k.val).1 (carried R X k.val).2 (Scf.iv 0#32 1#32 k) v (fun _ => der (gtBox X ⟨k.val, t3_lt k⟩) 6)) = carried R X (k.val + 1) := by
  have hk := t3_lt k
  have hn : ∀ x, k0_pay135 w v (fun _ => der (gtBox X ⟨k.val, t3_lt k⟩) 6) x = vals R X x ⟨k.val, hk⟩ := fun x => by
    show ratio (v x) (w x) (der (gtBox X ⟨k.val, t3_lt k⟩) 6) = _
    rw [hv, hw]; rfl
  have hi : Scf.iv 0#32 1#32 k.val = BitVec.ofNat 32 k.val :=
    BitVec.eq_of_toNat_eq (by rw [WordArith.toNat_iv_zero_one k.val (by omega), BitVec.toNat_ofNat, Nat.mod_eq_of_lt (by omega)])
  have hs : ∀ x, scan (vals R X x) (k.val + 1) = scanStep (vals R X x ⟨k.val, hk⟩) ⟨k.val, hk⟩ (scan (vals R X x) k.val) := fun x => dif_pos hk
  refine Prod.ext (funext fun x => ?_) (funext fun x => ?_)
  · show Scalar.select (FloatOps.cmpf .ogt (k0_pay135 w v _ x) (scan (vals R X x) k.val).1) (k0_pay135 w v _ x) (scan (vals R X x) k.val).1 = (scan (vals R X x) (k.val + 1)).1
    rw [hn, hs]; unfold scanStep Scalar.select
    by_cases h : FloatOps.cmpf .ogt (vals R X x ⟨k.val, hk⟩) (scan (vals R X x) k.val).1 = 1
    · refine (if_pos h).trans ?_; rw [if_pos (c := _ = 1#1) h]
    · refine (if_neg h).trans ?_; rw [if_neg (c := _ = 1#1) h]
  · show Scalar.select (FloatOps.cmpf .ogt (k0_pay135 w v _ x) (scan (vals R X x) k.val).1) (Scf.iv 0#32 1#32 k.val) (BitVec.ofNat 32 (scan (vals R X x) k.val).2.val) = BitVec.ofNat 32 (scan (vals R X x) (k.val + 1)).2.val
    rw [hn, hs, hi]; unfold scanStep Scalar.select
    by_cases h : FloatOps.cmpf .ogt (vals R X x ⟨k.val, hk⟩) (scan (vals R X x) k.val).1 = 1
    · refine (if_pos h).trans ?_; rw [if_pos (c := _ = 1#1) h]
    · refine (if_neg h).trans ?_; rw [if_neg (c := _ = 1#1) h]

variable (i : grid0.Coords) (arg2 : Memref sig .scVector .hbm S6x81920 .f32) (harg2 : arg2.IsWhole) (arg3 : Memref sig .scVector .hbm S7x81920 .f32) (harg3 : arg3.IsWhole) (arg4 : Memref sig .scVector .hbm S81920 .i32) (harg4 : arg4.IsWhole) (arg5 : Memref sig .scVector .hbm S4x896 .f32) (harg5 : arg5.IsWhole) (arg6 : Memref sig .scVector .hbm S4x128 .i32) (harg6 : arg6.IsWhole) (arg7 : Memref sig .scVector .hbm S7x81920 .f32) (harg7 : arg7.IsWhole) (arg8 : Memref sig .scVector .hbm S81920 .i32) (harg8 : arg8.IsWhole) (arg9 : Memref sig .scVector .hbm S81920 .f32) (harg9 : arg9.IsWhole) (arg10 : Memref sig .scVector .vmem S6x2560 .f32) (harg10 : arg10.IsWhole) (arg11 : Memref sig .scVector .vmem S7x2560 .f32) (harg11 : arg11.IsWhole) (arg12 : Memref sig .scVector .vmem S2560 .i32) (harg12 : arg12.IsWhole) (arg13 : Memref sig .scVector .vmem S896 .f32) (harg13 : arg13.IsWhole) (arg14 : Memref sig .scVector .vmem S128 .i32) (harg14 : arg14.IsWhole) (arg15 : Memref sig .scVector .vmem S14336 .f32) (harg15 : arg15.IsWhole) (arg16 : Memref sig .scVector .vmem S7x2560 .f32) (harg16 : arg16.IsWhole) (arg17 : Memref sig .scVector .vmem S2560 .i32) (harg17 : arg17.IsWhole) (arg18 : Memref sig .scVector .vmem S2560 .f32) (harg18 : arg18.IsWhole) (v24_r0 : DmaSems sig S_) (v24_r1 : DmaSems sig S_) (v24_r2 : DmaSems sig S_) (v24_r3 : DmaSems sig S_) (v24_r4 : DmaSems sig S_) (v24_r5 : DmaSems sig S_) (v24_r6 : DmaSems sig S_) (v24_r7 : DmaSems sig S_)

/-- What a trip of the scan keeps: the table, and the carried values. -/
def ScanInv (d : Dev nD) (f : Buf (Elt F) (arg15.view.loc (thr d i))) (R : S16.Idx → Fin 6 → F .f32) (X : S896.Idx → F .f32) (n : ℕ) (p : FVec F S16 .f32 × IVec S16 32) : sProp 𝕄 :=
  iprop((arg15.view.loc (thr d i) ↦{fullShare} f) ∗ ⌜p = carried R X n⌝)

set_option maxHeartbeats 1000000 in
/-- One trip of the scan, from the table filled with the boxes `X`. -/
theorem scan_trip (d : Dev nD) (f : Buf (Elt F) (arg15.view.loc (thr d i))) (R : S16.Idx → Fin 6 → F .f32) (X : S896.Idx → F .f32) (hf : ∀ y, arg15.view.read (Elt F) f y = table X y)
    (t2 : Fin k0_t2_loop.trips) (v24 : BitVec 32) (cst : F .f32) (k : Fin k0_t3_loop.trips) (p : FVec F S16 .f32 × IVec S16 32) :
    ScanInv i arg15 d f R X k.val p
      ⊢ (wp frame (wpE (defs₀ (F := F)) 𝒱₀ (thr d i) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24_r0 v24_r1 v24_r2 v24_r3 v24_r4 v24_r5 v24_r6 v24_r7 t2 v24
          (fun x => lo (R x 0) (R x 3)) (fun x => lo (R x 1) (R x 4)) (fun x => lo (R x 2) (R x 5))
          (fun x => hi (R x 0) (R x 3)) (fun x => hi (R x 1) (R x 4)) (fun x => hi (R x 2) (R x 5)) (fun x => vol (R x 3) (R x 4) (R x 5)) cst k p)
          (ScanInv i arg15 d f R X (k.val + 1)) : sProp 𝕄) := by
  unfold ScanInv k0_t3_body
  obtain ⟨p1, p2⟩ := p
  iintro ⟨Hf, %hp⟩
  obtain ⟨rfl, rfl⟩ := Prod.mk.inj hp
  sl_exec
  sl_step
  isplitl [Hf]
  · iexact Hf
  · ipureintro
    refine Eq.trans ?_ (carried_succ R X k (k0_pay119 (fun x => lo (R x 0) (R x 3)) (fun x => lo (R x 1) (R x 4)) (fun x => lo (R x 2) (R x 5))
          (fun x => hi (R x 0) (R x 3)) (fun x => hi (R x 1) (R x 4)) (fun x => hi (R x 2) (R x 5)) (trow arg15 f k 3) (trow arg15 f k 0) (trow arg15 f k 4) (trow arg15 f k 1) (trow arg15 f k 5) (trow arg15 f k 2))
          (fun x => vol (R x 3) (R x 4) (R x 5)) (fun x => by simp only [trow_eq arg15 f X hf]; rfl) (fun _ => rfl))
    rw [← trow_eq arg15 f X hf k 6]
    rfl

end Cert.Proof.Ideal

end
-- ==== Proof.Ideal.Columns.lean ====
module

public import Idealize.ShloMosaic.Lib.WritesUnit
public import proofs.«01_k».proof.Proof.Ideal.Scan
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

theorem idx2_ext {a b : ℕ} {x y : (⟨2, ![a, b]⟩ : Shape).Idx} (h0 : (x 0).val = (y 0).val) (h1 : (x 1).val = (y 1).val) : x = y :=
  funext fun i => match i with
    | 0 => Fin.ext h0
    | 1 => Fin.ext h1

/-- Dropping the leading axis of size one reads the lane. -/
theorem cast_down {α : Type} (v : S1x16.Idx → α) (x : S16.Idx) : shapeCast S16 v shapeCasts_S1x16_S16 x = v (ix2 0 (x 0)) := by
  show v (Shape.reshapeEquiv _ x) = _
  rw [Shape.reshapeEquiv_cons_one (d := ![16]) _ x]
  exact congrArg v (idx2_ext rfl rfl)

/-- Adding the leading axis reads the lane. -/
theorem cast_up {α : Type} (v : S16.Idx → α) (j : S1x16.Idx) : shapeCast S1x16 v shapeCasts_S16_S1x16 j = v (ix1 (j 1)) := by
  show v (Shape.reshapeEquiv _ j) = _
  have e : j = Shape.reshapeEquiv (s := S1x16) (s' := S16) shapeCasts_S1x16_S16 (ix1 (j 1)) := by
    rw [Shape.reshapeEquiv_cons_one (d := ![16]) _ (ix1 (j 1))]
    exact idx2_ext (by have h : (j 0).val < 1 := (j 0).isLt; show (j 0).val = 0; omega) rfl
  conv_lhs => rw [e, Shape.reshapeEquiv_reshapeEquiv, Shape.reshapeEquiv_self]

theorem t2_lt (k : Fin k0_t2_loop.trips) : k.val < 160 := Nat.lt_of_lt_of_le k.isLt k0_t2_abs.2.1

/-- The column of lane `x` in chunk `k`. -/
def at_ (k : Fin k0_t2_loop.trips) (x : S16.Idx) : Fin 2560 :=
  ⟨16 * k.val + (x 0).val, by have hk := t2_lt k; have hx : (x 0).val < 16 := (x 0).isLt; omega⟩

/-- A sixteen-lane load of row `c` at chunk `k`. -/
theorem row_load {r : ℕ} (m : Memref sig .scVector .vmem ⟨2, ![r, 2560]⟩ .f32) (f : m.view.ty.Contents (Elt F)) (off : Fin 2 → ℕ) (k : Fin k0_t2_loop.trips) (c : Fin r)
    (inb : ∀ a, off a + S1x16.size a ≤ (⟨2, ![r, 2560]⟩ : Shape).size a) (h : off = ![c.val, 16 * k.val]) (x : S16.Idx) :
    shapeCast S16 (m.view.readAt (Elt F) (Rect.unit (s := ⟨2, ![r, 2560]⟩) off S1x16.size inb).toLoadRect f) shapeCasts_S1x16_S16 x
      = col (m.view.read (Elt F) f) (at_ k x) c := by
  subst h
  rw [cast_down, View.readAt_apply]
  unfold col
  congr 1
  refine idx2_ext ?_ ?_
  · rw [LoadRect.idx_apply]
    show c.val + 1 * 0 = c.val
    omega
  · rw [LoadRect.idx_apply]
    show 16 * k.val + 1 * (x 0).val = 16 * k.val + (x 0).val
    omega

/-- A sixteen-lane load of a vector at chunk `k`. -/
theorem vec_load {e : EltTy} (m : Memref sig .scVector .vmem S2560 e) (f : m.view.ty.Contents (Elt F)) (off : Fin 1 → ℕ) (k : Fin k0_t2_loop.trips)
    (inb : ∀ a, off a + S16.size a ≤ S2560.size a) (h : off = ![16 * k.val]) (x : S16.Idx) :
    m.view.readAt (Elt F) (Rect.unit (s := S2560) off S16.size inb).toLoadRect f x = m.view.read (Elt F) f (ix1 (at_ k x)) := by
  subst h
  rw [View.readAt_apply]
  congr 1
  apply Shape.idx1_ext
  rw [LoadRect.idx_apply]
  show 16 * k.val + 1 * (x 0).val = 16 * k.val + (x 0).val
  omega

/-- The six rows of a chunk's regions, as loaded. -/
def roiRow (m : Memref sig .scVector .vmem S6x2560 .f32) (f : m.view.ty.Contents (Elt F)) (k : Fin k0_t2_loop.trips) (c : Fin 6) : S1x16.Idx → F .f32 :=
  match c with
  | 0 => m.view.readAt (Elt F) (Rect.unit (s := S6x2560) (k0_off8 k) S1x16.size (k0_off8_inb k)).toLoadRect f
  | 1 => m.view.readAt (Elt F) (Rect.unit (s := S6x2560) (k0_off9 k) S1x16.size (k0_off9_inb k)).toLoadRect f
  | 2 => m.view.readAt (Elt F) (Rect.unit (s := S6x2560) (k0_off10 k) S1x16.size (k0_off10_inb k)).toLoadRect f
  | 3 => m.view.readAt (Elt F) (Rect.unit (s := S6x2560) (k0_off11 k) S1x16.size (k0_off11_inb k)).toLoadRect f
  | 4 => m.view.readAt (Elt F) (Rect.unit (s := S6x2560) (k0_off12 k) S1x16.size (k0_off12_inb k)).toLoadRect f
  | 5 => m.view.readAt (Elt F) (Rect.unit (s := S6x2560) (k0_off13 k) S1x16.size (k0_off13_inb k)).toLoadRect f

/-- The regions of a chunk, lane by lane. -/
def roi (m : Memref sig .scVector .vmem S6x2560 .f32) (f : m.view.ty.Contents (Elt F)) (k : Fin k0_t2_loop.trips) (x : S16.Idx) (c : Fin 6) : F .f32 :=
  shapeCast S16 (roiRow m f k c) shapeCasts_S1x16_S16 x

theorem roi_eq (m : Memref sig .scVector .vmem S6x2560 .f32) (f : m.view.ty.Contents (Elt F)) (k : Fin k0_t2_loop.trips) (x : S16.Idx) :
    roi m f k x = col (m.view.read (Elt F) f) (at_ k x) := by
  funext c
  unfold roi roiRow
  match c with
  | 0 => exact row_load m f _ k _ _ (k0_off8_eq k) x
  | 1 => exact row_load m f _ k _ _ (k0_off9_eq k) x
  | 2 => exact row_load m f _ k _ _ (k0_off10_eq k) x
  | 3 => exact row_load m f _ k _ _ (k0_off11_eq k) x
  | 4 => exact row_load m f _ k _ _ (k0_off12_eq k) x
  | 5 => exact row_load m f _ k _ _ (k0_off13_eq k) x

/-- A gather reads the indexed element. -/
theorem gathered {s : Shape} {e : EltTy} (X : s.Idx → Elt F e) (idxs : Fin s.rank → IVec S16 32) (h : ∀ a x, (idxs a x).toNat < s.size a) (x : S16.Idx) (y : s.Idx)
    (hy : ∀ a, (idxs a x).toNat = (y a).val) : loadIdx X idxs h x = X y :=
  congrArg X (funext fun a => Fin.ext (hy a))

/-- Where chunk `k`'s row `c` of the assigned boxes is stored. -/
def boxOff (k : Fin k0_t2_loop.trips) (c : Fin 7) : Fin 2 → ℕ :=
  match c with
  | 0 => k0_off16 k
  | 1 => k0_off17 k
  | 2 => k0_off18 k
  | 3 => k0_off19 k
  | 4 => k0_off20 k
  | 5 => k0_off21 k
  | 6 => k0_off22 k

theorem boxOff_eq (k : Fin k0_t2_loop.trips) (c : Fin 7) : boxOff k c = ![c.val, 16 * k.val] := by
  match c with
  | 0 => exact k0_off16_eq k
  | 1 => exact k0_off17_eq k
  | 2 => exact k0_off18_eq k
  | 3 => exact k0_off19_eq k
  | 4 => exact k0_off20_eq k
  | 5 => exact k0_off21_eq k
  | 6 => exact k0_off22_eq k

theorem boxOff_inb (k : Fin k0_t2_loop.trips) (c : Fin 7) : ∀ a, boxOff k c a + S1x16.size a ≤ S7x2560.size a := by
  rw [boxOff_eq]
  have hk := t2_lt k
  intro a
  match a with
  | 0 => show c.val + 1 ≤ 7; omega
  | 1 => show 16 * k.val + 16 ≤ 2560; omega

/-- The store of row `c`. -/
def boxPiece (k : Fin k0_t2_loop.trips) (w : Fin 7 → S16.Idx → F .f32) (c : Fin 7) : View.Piece (Elt F) S7x2560 .f32 :=
  ⟨Rect.unit (s := S7x2560) (boxOff k c) S1x16.size (boxOff_inb k c), shapeCast S1x16 (w c) shapeCasts_S16_S1x16⟩

/-- The first `n` columns of a matrix of seven rows agree with `G`. -/
def UpTo (m : Memref sig .scVector .vmem S7x2560 .f32) (G : S7x2560.Idx → F .f32) (n : ℕ) (f : m.view.ty.Contents (Elt F)) : Prop :=
  ∀ y : S7x2560.Idx, (y 1).val < 16 * n → m.view.read (Elt F) f y = G y

/-- The first elements of a vector agree with `G`. -/
def VecUpTo {e : EltTy} (m : Memref sig .scVector .vmem S2560 e) (G : S2560.Idx → Elt F e) (n : ℕ) (f : m.view.ty.Contents (Elt F)) : Prop :=
  ∀ y : S2560.Idx, (y 0).val < 16 * n → m.view.read (Elt F) f y = G y

/-- Seven stores that agree with `G` on the chunk's columns add the chunk. -/
theorem upTo_succ (m : Memref sig .scVector .vmem S7x2560 .f32) (G : S7x2560.Idx → F .f32) (k : Fin k0_t2_loop.trips) (f : m.view.ty.Contents (Elt F)) (w : Fin 7 → S16.Idx → F .f32)
    (hw : ∀ c x, w c x = G (ix2 c (at_ k x))) (h : UpTo m G k.val f) :
    UpTo m G (k.val + 1) (m.view.writes (Elt F) f ([6, 5, 4, 3, 2, 1, 0].map (boxPiece k w))) := by
  intro y hy
  have hk := t2_lt k
  by_cases hc : ∃ p ∈ [6, 5, 4, 3, 2, 1, 0].map (boxPiece k w), y ∈ p.1.set
  · refine View.read_writes_apply_of_pieces _ f _ _ (fun p hp x => ?_) y hc
    obtain ⟨c, -, rfl⟩ := List.mem_map.mp hp
    refine (cast_up (w c) x).trans ((hw c _).trans (congrArg G (idx2_ext ?_ ?_)))
    · have h0 : (x (0 : Fin 2)).val < 1 := (x (0 : Fin 2)).isLt
      rw [Rect.emb_apply]
      show c.val = boxOff k c 0 + 1 * (x (0 : Fin 2)).val
      rw [boxOff_eq]; show c.val = c.val + _; omega
    · rw [Rect.emb_apply]
      show 16 * k.val + (x (1 : Fin 2)).val = boxOff k c 1 + 1 * (x (1 : Fin 2)).val
      rw [boxOff_eq]; show _ = 16 * k.val + _; omega
  · have hn : ∀ p ∈ [6, 5, 4, 3, 2, 1, 0].map (boxPiece k w), y ∉ p.1.set := fun p hp hy => hc ⟨p, hp, hy⟩
    rw [View.read_writes_apply_of_forall_not_mem _ f y _ hn]
    refine h y (Nat.lt_of_not_le fun hge => ?_)
    refine hn (boxPiece k w (y 0)) (List.mem_map.mpr ⟨y 0, (by decide : ∀ c : Fin 7, c ∈ [6, 5, 4, 3, 2, 1, 0]) (y 0), rfl⟩) ?_
    refine (Rect.mem_set_unit (inb := boxOff_inb k (y 0))).mpr fun a => ?_
    have e := boxOff_eq k (y (0 : Fin 2))
    have e0 : boxOff k (y (0 : Fin 2)) (0 : Fin 2) = (y (0 : Fin 2)).val := congrFun e 0
    have e1 : boxOff k (y (0 : Fin 2)) (1 : Fin 2) = 16 * k.val := congrFun e 1
    match a with
    | 0 => show boxOff k (y (0 : Fin 2)) (0 : Fin 2) ≤ (y (0 : Fin 2)).val ∧ (y (0 : Fin 2)).val < boxOff k (y (0 : Fin 2)) (0 : Fin 2) + 1; omega
    | 1 => show boxOff k (y (0 : Fin 2)) (1 : Fin 2) ≤ (y (1 : Fin 2)).val ∧ (y (1 : Fin 2)).val < boxOff k (y (0 : Fin 2)) (1 : Fin 2) + 16; omega

/-- A store that agrees with `G` on the chunk's elements adds the chunk. -/
theorem vecUpTo_succ {e : EltTy} (m : Memref sig .scVector .vmem S2560 e) (G : S2560.Idx → Elt F e) (k : Fin k0_t2_loop.trips) (f : m.view.ty.Contents (Elt F)) (w : S16.Idx → Elt F e)
    (hw : ∀ x, w x = G (ix1 (at_ k x))) (h : VecUpTo m G k.val f) :
    VecUpTo m G (k.val + 1) (m.view.writes (Elt F) f [⟨Rect.unit (s := S2560) (k0_off23 k) S16.size (k0_off23_inb k), w⟩]) := by
  intro y hy
  by_cases hc : 16 * k.val ≤ (y 0).val
  · have hx : (y 0).val - 16 * k.val < 16 := by omega
    refine (View.read_writes_cons_unit_of_mem m.view f (k0_off23_inb k) w [] y (ix1 ⟨(y 0).val - 16 * k.val, hx⟩) (k0_off23_eq k) fun a => ?_).trans ?_
    · obtain rfl : a = 0 := Subsingleton.elim _ _
      show (y 0).val = 16 * k.val + ((y 0).val - 16 * k.val)
      omega
    · rw [hw]
      refine congrArg G (Shape.idx1_ext ?_)
      show 16 * k.val + ((y 0).val - 16 * k.val) = (y 0).val
      omega
  · refine (View.read_writes_cons_unit_of_not_mem m.view f (k0_off23_inb k) w [] y (k0_off23_eq k) (0 : Fin 1) (.inl ?_)).trans (h y (by omega))
    show (y 0).val < 16 * k.val
    omega

end Cert.Proof.Ideal

end
-- ==== Proof.Ideal.Chunk.lean ====
module

public import proofs.«01_k».proof.Proof.Ideal.Columns
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

/-- The assigned boxes of every column, from the buffers' contents. -/
def boxOut (R : S6x2560.Idx → F .f32) (A : S7x2560.Idx → F .f32) (lab : S2560.Idx → BitVec 32) (X : S896.Idx → F .f32) (y : S7x2560.Idx) : F .f32 :=
  outBox (col R (y 1)) (col A (y 1)) (lab (ix1 (y 1))) (gtBox X) (y 0)

/-- The assigned labels. -/
def labOut (R : S6x2560.Idx → F .f32) (lab : S2560.Idx → BitVec 32) (X : S896.Idx → F .f32) (gl : S128.Idx → BitVec 32) (y : S2560.Idx) : BitVec 32 :=
  outLab (col R (y 0)) (lab (ix1 (y 0))) (gtBox X) (fun g => gl (ix1 g))

/-- The masks. -/
def maskOut (R : S6x2560.Idx → F .f32) (lab : S2560.Idx → BitVec 32) (X : S896.Idx → F .f32) (y : S2560.Idx) : F .f32 :=
  outMask (col R (y 0)) (lab (ix1 (y 0))) (gtBox X)

/-- A position of the scan, moved to the row of coordinate `c` of the boxes. -/
theorem pos_toNat (g : Fin 128) (c : Fin 7) : (BitVec.ofNat 32 g.val + BitVec.ofNat 32 (128 * c.val)).toNat = c.val * 128 + g.val := by
  rw [BitVec.toNat_add, BitVec.toNat_ofNat, BitVec.toNat_ofNat]; omega

/-- A chunk's stage-one labels, as loaded. -/
def lanes (m : Memref sig .scVector .vmem S2560 .i32) (f : m.view.ty.Contents (Elt F)) (k : Fin k0_t2_loop.trips) : S16.Idx → BitVec 32 :=
  m.view.readAt (Elt F) (Rect.unit (s := S2560) (k0_off15 k) S16.size (k0_off15_inb k)).toLoadRect f

theorem lanes_eq (m : Memref sig .scVector .vmem S2560 .i32) (f : m.view.ty.Contents (Elt F)) (k : Fin k0_t2_loop.trips) (x : S16.Idx) :
    lanes m f k x = m.view.read (Elt F) f (ix1 (at_ k x)) := vec_load m f _ k _ (k0_off15_eq k) x

/-- The positions the scan of a chunk ends with. -/
theorem indices_val (X : S896.Idx → F .f32) (R : S16.Idx → Fin 6 → F .f32) (g : IVec S16 32) (hg : g = fun x => BitVec.ofNat 32 (scan (vals R X x) 128).2.val) (x : S16.Idx) :
    (g x).toNat = (scan (vals R X x) 128).2.val := by
  rw [hg]; show (BitVec.ofNat 32 _).toNat = _; rw [BitVec.toNat_ofNat]; omega

theorem indices_lt (X : S896.Idx → F .f32) (R : S16.Idx → Fin 6 → F .f32) (g : IVec S16 32) (hg : g = fun x => BitVec.ofNat 32 (scan (vals R X x) 128).2.val) (x : S16.Idx) :
    (g x).toNat < 128 := by
  rw [indices_val X R g hg]; exact Fin.isLt _

/-- Moved to the row of coordinate `c`, they still name elements of the boxes. -/
theorem indices_add (X : S896.Idx → F .f32) (R : S16.Idx → Fin 6 → F .f32) (g : IVec S16 32) (hg : g = fun x => BitVec.ofNat 32 (scan (vals R X x) 128).2.val) (c : Fin 7) (x : S16.Idx) :
    (g x + BitVec.ofNat 32 (128 * c.val)).toNat = c.val * 128 + (scan (vals R X x) 128).2.val := by
  rw [hg]; exact pos_toNat _ c

theorem indices (X : S896.Idx → F .f32) (R : S16.Idx → Fin 6 → F .f32) (g : IVec S16 32) (hg : g = fun x => BitVec.ofNat 32 (scan (vals R X x) 128).2.val) (c : Fin 7) :
    ∀ a x, ((![fun x => g x + BitVec.ofNat 32 (128 * c.val)] : Fin 1 → IVec S16 32) a x).toNat < S896.size a := fun a x => by
  obtain rfl : a = 0 := Subsingleton.elim _ _
  show (g x + BitVec.ofNat 32 (128 * c.val)).toNat < 896
  rw [indices_add X R g hg]
  have h := (scan (vals R X x) 128).2.isLt
  omega

/-- A load of a whole buffer reads it. -/
theorem whole_load {s : Shape} {e : EltTy} (m : Memref sig .scVector .vmem s e) (f : m.view.ty.Contents (Elt F)) : m.view.readAt (Elt F) (LoadRect.whole s) f = m.view.read (Elt F) f := by
  funext y; rw [View.readAt_apply, LoadRect.idx_whole]

/-- The scan of a chunk's lane is the scan of its column's region. -/
theorem scan_eq (m : Memref sig .scVector .vmem S6x2560 .f32) (f : m.view.ty.Contents (Elt F)) (X : S896.Idx → F .f32) (k : Fin k0_t2_loop.trips) (x : S16.Idx) :
    scan (vals (roi m f k) X x) 128 = best (col (m.view.read (Elt F) f) (at_ k x)) (gtBox X) := by
  unfold best
  congr 1
  funext g
  show iouT (roi m f k x) _ = _
  rw [roi_eq]

/-- What a chunk stores into row `c` of the assigned boxes. -/
def boxVec (m11 : Memref sig .scVector .vmem S7x2560 .f32) (f11 : m11.view.ty.Contents (Elt F)) (m12 : Memref sig .scVector .vmem S2560 .i32) (f12 : m12.view.ty.Contents (Elt F))
    (m13 : Memref sig .scVector .vmem S896 .f32) (f13 : m13.view.ty.Contents (Elt F)) (k : Fin k0_t2_loop.trips) (b : FVec F S16 .f32) (g : IVec S16 32)
    (hc : ∀ (c : Fin 7) a x, ((![fun x => g x + BitVec.ofNat 32 (128 * c.val)] : Fin 1 → IVec S16 32) a x).toNat < S896.size a) (c : Fin 7) (x : S16.Idx) : F .f32 :=
  pick (pos (lanes m12 f12 k x)) (two (lanes m12 f12 k x) (b x))
    (sgn c (shapeCast S16 (m11.view.readAt (Elt F) (Rect.unit (s := S7x2560) (boxOff k c) S1x16.size (boxOff_inb k c)).toLoadRect f11) shapeCasts_S1x16_S16 x))
    (sgn c (loadIdx (s := S896) (e := .f32) (m13.view.readAt (Elt F) (LoadRect.whole S896) f13) ![fun x => g x + BitVec.ofNat 32 (128 * c.val)] (hc c) x)) zero

theorem boxVec_eq (m10 : Memref sig .scVector .vmem S6x2560 .f32) (f10 : m10.view.ty.Contents (Elt F)) (m11 : Memref sig .scVector .vmem S7x2560 .f32) (f11 : m11.view.ty.Contents (Elt F)) (m12 : Memref sig .scVector .vmem S2560 .i32) (f12 : m12.view.ty.Contents (Elt F))
    (m13 : Memref sig .scVector .vmem S896 .f32) (f13 : m13.view.ty.Contents (Elt F)) (k : Fin k0_t2_loop.trips) (b : FVec F S16 .f32) (g : IVec S16 32)
    (hb : b = fun x => (scan (vals (roi m10 f10 k) (m13.view.read (Elt F) f13) x) 128).1)
    (hg : g = fun x => BitVec.ofNat 32 (scan (vals (roi m10 f10 k) (m13.view.read (Elt F) f13) x) 128).2.val)
    (hc : ∀ (c : Fin 7) a x, ((![fun x => g x + BitVec.ofNat 32 (128 * c.val)] : Fin 1 → IVec S16 32) a x).toNat < S896.size a) (c : Fin 7) (x : S16.Idx) :
    boxVec m11 f11 m12 f12 m13 f13 k b g hc c x
      = boxOut (m10.view.read (Elt F) f10) (m11.view.read (Elt F) f11) (m12.view.read (Elt F) f12) (m13.view.read (Elt F) f13) (ix2 c (at_ k x)) := by
  unfold boxVec
  rw [row_load m11 f11 _ k c _ (boxOff_eq k c) x, lanes_eq,
    gathered (m13.view.readAt (Elt F) (LoadRect.whole S896) f13) _ (hc c) x
      (ix1 ⟨c.val * 128 + (scan (vals (roi m10 f10 k) (m13.view.read (Elt F) f13) x) 128).2.val, by omega⟩) (fun a => by
        obtain rfl : a = 0 := Subsingleton.elim _ _
        exact indices_add _ _ g hg c x), whole_load, congrFun hb x]
  show pick _ _ _ (sgn c (gtBox (m13.view.read (Elt F) f13) (scan (vals (roi m10 f10 k) (m13.view.read (Elt F) f13) x) 128).2 c)) zero = _
  rw [scan_eq]
  rfl

variable (i : grid0.Coords) (arg2 : Memref sig .scVector .hbm S6x81920 .f32) (harg2 : arg2.IsWhole) (arg3 : Memref sig .scVector .hbm S7x81920 .f32) (harg3 : arg3.IsWhole) (arg4 : Memref sig .scVector .hbm S81920 .i32) (harg4 : arg4.IsWhole) (arg5 : Memref sig .scVector .hbm S4x896 .f32) (harg5 : arg5.IsWhole) (arg6 : Memref sig .scVector .hbm S4x128 .i32) (harg6 : arg6.IsWhole) (arg7 : Memref sig .scVector .hbm S7x81920 .f32) (harg7 : arg7.IsWhole) (arg8 : Memref sig .scVector .hbm S81920 .i32) (harg8 : arg8.IsWhole) (arg9 : Memref sig .scVector .hbm S81920 .f32) (harg9 : arg9.IsWhole) (arg10 : Memref sig .scVector .vmem S6x2560 .f32) (harg10 : arg10.IsWhole) (arg11 : Memref sig .scVector .vmem S7x2560 .f32) (harg11 : arg11.IsWhole) (arg12 : Memref sig .scVector .vmem S2560 .i32) (harg12 : arg12.IsWhole) (arg13 : Memref sig .scVector .vmem S896 .f32) (harg13 : arg13.IsWhole) (arg14 : Memref sig .scVector .vmem S128 .i32) (harg14 : arg14.IsWhole) (arg15 : Memref sig .scVector .vmem S14336 .f32) (harg15 : arg15.IsWhole) (arg16 : Memref sig .scVector .vmem S7x2560 .f32) (harg16 : arg16.IsWhole) (arg17 : Memref sig .scVector .vmem S2560 .i32) (harg17 : arg17.IsWhole) (arg18 : Memref sig .scVector .vmem S2560 .f32) (harg18 : arg18.IsWhole) (v24_r0 : DmaSems sig S_) (v24_r1 : DmaSems sig S_) (v24_r2 : DmaSems sig S_) (v24_r3 : DmaSems sig S_) (v24_r4 : DmaSems sig S_) (v24_r5 : DmaSems sig S_) (v24_r6 : DmaSems sig S_) (v24_r7 : DmaSems sig S_)

/-- What the chunks below `n` leave: the inputs and the table as they were, and the outputs of the columns below `16 n`. -/
def ChunkInv (d : Dev nD) (f10 : Buf (Elt F) (arg10.view.loc (thr d i))) (f11 : Buf (Elt F) (arg11.view.loc (thr d i))) (f12 : Buf (Elt F) (arg12.view.loc (thr d i)))
    (f13 : Buf (Elt F) (arg13.view.loc (thr d i))) (f14 : Buf (Elt F) (arg14.view.loc (thr d i))) (f15 : Buf (Elt F) (arg15.view.loc (thr d i))) (n : ℕ) (_ : BitVec 32) : sProp 𝕄 :=
  iprop((arg10.view.loc (thr d i) ↦{fullShare} f10) ∗ (arg11.view.loc (thr d i) ↦{fullShare} f11) ∗ (arg12.view.loc (thr d i) ↦{fullShare} f12)
    ∗ (arg13.view.loc (thr d i) ↦{fullShare} f13) ∗ (arg14.view.loc (thr d i) ↦{fullShare} f14) ∗ (arg15.view.loc (thr d i) ↦{fullShare} f15)
    ∗ (∃ f, ⌜UpTo arg16 (boxOut (arg10.view.read (Elt F) f10) (arg11.view.read (Elt F) f11) (arg12.view.read (Elt F) f12) (arg13.view.read (Elt F) f13)) n f⌝ ∗ arg16.view.loc (thr d i) ↦{fullShare} f)
    ∗ (∃ f, ⌜VecUpTo arg17 (labOut (arg10.view.read (Elt F) f10) (arg12.view.read (Elt F) f12) (arg13.view.read (Elt F) f13) (arg14.view.read (Elt F) f14)) n f⌝ ∗ arg17.view.loc (thr d i) ↦{fullShare} f)
    ∗ (∃ f, ⌜VecUpTo arg18 (maskOut (arg10.view.read (Elt F) f10) (arg12.view.read (Elt F) f12) (arg13.view.read (Elt F) f13)) n f⌝ ∗ arg18.view.loc (thr d i) ↦{fullShare} f))

set_option maxHeartbeats 4000000 in
set_option maxRecDepth 4000 in
/-- One chunk. -/
theorem chunk_trip (d : Dev nD) (f10 : Buf (Elt F) (arg10.view.loc (thr d i))) (f11 : Buf (Elt F) (arg11.view.loc (thr d i))) (f12 : Buf (Elt F) (arg12.view.loc (thr d i)))
    (f13 : Buf (Elt F) (arg13.view.loc (thr d i))) (f14 : Buf (Elt F) (arg14.view.loc (thr d i))) (f15 : Buf (Elt F) (arg15.view.loc (thr d i)))
    (hf : ∀ y, arg15.view.read (Elt F) f15 y = table (arg13.view.read (Elt F) f13) y) (k : Fin k0_t2_loop.trips) (a : BitVec 32) :
    ChunkInv i arg10 arg11 arg12 arg13 arg14 arg15 arg16 arg17 arg18 d f10 f11 f12 f13 f14 f15 k.val a
      ⊢ (wp frame (wpE (defs₀ (F := F)) 𝒱₀ (thr d i) none) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24_r0 v24_r1 v24_r2 v24_r3 v24_r4 v24_r5 v24_r6 v24_r7 k a)
          (ChunkInv i arg10 arg11 arg12 arg13 arg14 arg15 arg16 arg17 arg18 d f10 f11 f12 f13 f14 f15 (k.val + 1)) : sProp 𝕄) := by
  unfold ChunkInv k0_t2_body
  iintro ⟨H10, H11, H12, H13, H14, H15, ⟨%f16, %h16, H16⟩, ⟨%f17, %h17, H17⟩, ⟨%f18, %h18, H18⟩⟩
  sl_exec
  sl_for (ScanInv i arg15 d f15 (roi arg10 f10 k) (arg13.view.read (Elt F) f13)) $$ [H15]
  case region =>
    intro k' acc
    exact scan_trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24_r0 v24_r1 v24_r2 v24_r3 v24_r4 v24_r5 v24_r6 v24_r7 d f15 (roi arg10 f10 k) (arg13.view.read (Elt F) f13) hf k _ _ k' acc
  · unfold ScanInv
    isplitl [H15]
    · iexact H15
    · ipureintro; rfl
  iintro %acc HI
  obtain ⟨b, g⟩ := acc
  unfold ScanInv
  icases HI with ⟨H15, %hp⟩
  obtain ⟨hb, hg⟩ := Prod.mk.inj hp
  rw [show Scf.trips k0_t3_loop.lb k0_t3_loop.ub k0_t3_loop.st = 128 from by decide] at hb hg
  have hc := fun c => indices (arg13.view.read (Elt F) f13) (roi arg10 f10 k) g hg c
  have hg8 : k0_chk8 g := fun a x => by
    obtain rfl : a = 0 := Subsingleton.elim _ _
    exact indices_lt (arg13.view.read (Elt F) f13) (roi arg10 f10 k) g hg x
  have hg1 : k0_chk1 (k0_pay142 g) := hc 0
  have hg2 : k0_chk2 (k0_pay144 g) := hc 1
  have hg3 : k0_chk3 (k0_pay146 g 256#32) := hc 2
  have hg4 : k0_chk4 (k0_pay148 g) := hc 3
  have hg5 : k0_chk5 (k0_pay150 g) := hc 4
  have hg6 : k0_chk6 (k0_pay152 g) := hc 5
  have hg7 : k0_chk7 (k0_pay155 g) := hc 6
  sl_exec
  iterate 3 (sl_unfold [SparseCore.vectorLoadIdx]; sl_exec)
  sl_step
  isplitl [H10]; · iexact H10
  isplitl [H11]; · iexact H11
  isplitl [H12]; · iexact H12
  isplitl [H13]; · iexact H13
  isplitl [H14]; · iexact H14
  isplitl [H15]; · iexact H15
  isplitl [H16]
  · iexists _
    isplitr
    rotate_left
    · iexact H16
    · ipureintro
      exact upTo_succ arg16 _ k f16 (boxVec arg11 f11 arg12 f12 arg13 f13 k b g hc)
        (fun c x => boxVec_eq arg10 f10 arg11 f11 arg12 f12 arg13 f13 k b g hb hg hc c x) h16
  isplitl [H17]
  · iexists _
    isplitr
    rotate_left
    · iexact H17
    · ipureintro
      refine vecUpTo_succ arg17 _ k f17 _ (fun x => ?_) h17
      refine (congrArg (fun v => pick (pos (lanes arg12 f12 k x)) (two (lanes arg12 f12 k x) (b x)) (lanes arg12 f12 k x) v 11#32)
        (gathered (arg14.view.readAt (Elt F) (LoadRect.whole S128) f14) ![g] hg8 x (ix1 (scan (vals (roi arg10 f10 k) (arg13.view.read (Elt F) f13) x) 128).2) (fun a => ?_))).trans ?_
      · obtain rfl : a = 0 := Subsingleton.elim _ _
        exact indices_val (arg13.view.read (Elt F) f13) (roi arg10 f10 k) g hg x
      · rw [whole_load, congrFun hb x, lanes_eq, scan_eq]
        rfl
  · iexists _
    isplitr
    rotate_left
    · iexact H18
    · ipureintro
      refine vecUpTo_succ arg18 _ k f18 _ (fun x => ?_) h18
      show FloatOps.sitofp .f32 ((IntOp.ori (pos (lanes arg12 f12 k x)) (two (lanes arg12 f12 k x) (b x))).setWidth 32) = _
      rw [congrFun hb x, lanes_eq, scan_eq]
      rfl

end Cert.Proof.Ideal

end
-- ==== Proof.Ideal.Outs.lean ====
module

public import proofs.«01_k».proof.Proof.Ideal.Chunk
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

/-- The three copies out, into any three windows of the shapes of the buffers.  The last copy's wait stands after the
others' program, as it does in the task. -/
theorem copies_out (d : Dev nD) (i : grid0.Coords) (m7 : Memref sig .scVector .hbm S7x2560 .f32) (w7 : m7.view.WordExact) (arg16 : Memref sig .scVector .vmem S7x2560 .f32) (harg16 : arg16.IsWhole) (a7 : DmaSems sig S_) (m8 : Memref sig .scVector .hbm S2560 .i32) (w8 : m8.view.WordExact) (arg17 : Memref sig .scVector .vmem S2560 .i32) (harg17 : arg17.IsWhole) (a8 : DmaSems sig S_) (m9 : Memref sig .scVector .hbm S2560 .f32) (w9 : m9.view.WordExact) (arg18 : Memref sig .scVector .vmem S2560 .f32) (harg18 : arg18.IsWhole) (a9 : DmaSems sig S_)
    (f7 : Buf (Elt F) (m7.view.loc (thr d i))) (t16 : Buf (Elt F) (arg16.view.loc (thr d i))) (f8 : Buf (Elt F) (m8.view.loc (thr d i))) (t17 : Buf (Elt F) (arg17.view.loc (thr d i))) (f9 : Buf (Elt F) (m9.view.loc (thr d i))) (t18 : Buf (Elt F) (arg18.view.loc (thr d i))) (O : CellTallies nD τ sig (HIx 1)) (W : Waits sig (HIx 1)) (Q : PUnit → sProp 𝕄) :
    iprop(Transfers.MayWaits (thr d i) none O ∗ (m7.view.loc (thr d i) ↦[m7.view.set]{fullShare} f7) ∗ (arg16.view.loc (thr d i) ↦{fullShare} t16) ∗ semVal (thr d i, SemLoc.dma a7.sem) 0 ∗ (m8.view.loc (thr d i) ↦[m8.view.set]{fullShare} f8) ∗ (arg17.view.loc (thr d i) ↦{fullShare} t17) ∗ semVal (thr d i, SemLoc.dma a8.sem) 0 ∗ (m9.view.loc (thr d i) ↦[m9.view.set]{fullShare} f9) ∗ (arg18.view.loc (thr d i) ↦{fullShare} t18) ∗ semVal (thr d i, SemLoc.dma a9.sem) 0 ∗ owes (thr d i) O W)
      ⊢ iprop((iprop((m7.view.loc (thr d i) ↦[m7.view.set]{fullShare} (m7.view.writes (Elt F) f7 [⟨Rect.whole S7x2560, arg16.view.read (Elt F) t16⟩])) ∗ (arg16.view.loc (thr d i) ↦{fullShare} t16) ∗ semVal (thr d i, SemLoc.dma a7.sem) 0 ∗ (m8.view.loc (thr d i) ↦[m8.view.set]{fullShare} (m8.view.writes (Elt F) f8 [⟨Rect.whole S2560, arg17.view.read (Elt F) t17⟩])) ∗ (arg17.view.loc (thr d i) ↦{fullShare} t17) ∗ semVal (thr d i, SemLoc.dma a8.sem) 0 ∗ (m9.view.loc (thr d i) ↦[m9.view.set]{fullShare} (m9.view.writes (Elt F) f9 [⟨Rect.whole S2560, arg18.view.read (Elt F) t18⟩])) ∗ (arg18.view.loc (thr d i) ↦{fullShare} t18) ∗ semVal (thr d i, SemLoc.dma a9.sem) 0 ∗ owes (thr d i) O (insert (.dma a9.sem, none) (insert (.dma a8.sem, none) (insert (.dma a7.sem, none) W)))) -∗ Q ⟨⟩)
        -∗ wp frame (wpE (defs₀ (F := F)) 𝒱₀ (thr d i) none) Set.univ (do
           Prog.lift (.enqueueDma arg16 (.here m7) (.dma a7.sem) harg16.wordExact w7 ⟨Or.inl rfl, trivial⟩)
           Prog.lift (.waitDma2 a7.sem arg16 m7 harg16.wordExact w7)
           Prog.lift (.enqueueDma arg17 (.here m8) (.dma a8.sem) harg17.wordExact w8 ⟨Or.inl rfl, trivial⟩)
           Prog.lift (.waitDma2 a8.sem arg17 m8 harg17.wordExact w8)
           Prog.lift (.enqueueDma arg18 (.here m9) (.dma a9.sem) harg18.wordExact w9 ⟨Or.inl rfl, trivial⟩)
           pure ⟨⟩)
          fun (b : PUnit) => wp frame (wpE (defs₀ (F := F)) 𝒱₀ (thr d i) none) Set.univ ((fun _ => do
           Prog.lift (.waitDma2 a9.sem arg18 m9 harg18.wordExact w9)
           pure ⟨⟩) b) Q) := by
  iintro ⟨#Hmw, H7, H16, S7, H8, H17, S8, H9, H18, S9, HO⟩ Hk
  sl_exec (disch := exact View.amount_pos _ _ (by decide))
  sl_step
  iapply Hk
  isplitl [H7]; · iexact H7
  isplitl [H16]; · iexact H16
  isplitl [S7]; · iexact S7
  isplitl [H8]; · iexact H8
  isplitl [H17]; · iexact H17
  isplitl [S8]; · iexact S8
  isplitl [H9]; · iexact H9
  isplitl [H18]; · iexact H18
  isplitl [S9]; · iexact S9
  iexact HO

end Cert.Proof.Ideal
-- ==== Proof.Ideal.Tile.lean ====
module

public import proofs.«01_k».proof.Proof.Ideal.Outs
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

variable (i : grid0.Coords) (arg2 : Memref sig .scVector .hbm S6x81920 .f32) (harg2 : arg2.IsWhole) (arg3 : Memref sig .scVector .hbm S7x81920 .f32) (harg3 : arg3.IsWhole) (arg4 : Memref sig .scVector .hbm S81920 .i32) (harg4 : arg4.IsWhole) (arg5 : Memref sig .scVector .hbm S4x896 .f32) (harg5 : arg5.IsWhole) (arg6 : Memref sig .scVector .hbm S4x128 .i32) (harg6 : arg6.IsWhole) (arg7 : Memref sig .scVector .hbm S7x81920 .f32) (harg7 : arg7.IsWhole) (arg8 : Memref sig .scVector .hbm S81920 .i32) (harg8 : arg8.IsWhole) (arg9 : Memref sig .scVector .hbm S81920 .f32) (harg9 : arg9.IsWhole) (arg10 : Memref sig .scVector .vmem S6x2560 .f32) (harg10 : arg10.IsWhole) (arg11 : Memref sig .scVector .vmem S7x2560 .f32) (harg11 : arg11.IsWhole) (arg12 : Memref sig .scVector .vmem S2560 .i32) (harg12 : arg12.IsWhole) (arg13 : Memref sig .scVector .vmem S896 .f32) (harg13 : arg13.IsWhole) (arg14 : Memref sig .scVector .vmem S128 .i32) (harg14 : arg14.IsWhole) (arg15 : Memref sig .scVector .vmem S14336 .f32) (harg15 : arg15.IsWhole) (arg16 : Memref sig .scVector .vmem S7x2560 .f32) (harg16 : arg16.IsWhole) (arg17 : Memref sig .scVector .vmem S2560 .i32) (harg17 : arg17.IsWhole) (arg18 : Memref sig .scVector .vmem S2560 .f32) (harg18 : arg18.IsWhole) (v24_r0 : DmaSems sig S_) (v24_r1 : DmaSems sig S_) (v24_r2 : DmaSems sig S_) (v24_r3 : DmaSems sig S_) (v24_r4 : DmaSems sig S_) (v24_r5 : DmaSems sig S_) (v24_r6 : DmaSems sig S_) (v24_r7 : DmaSems sig S_)

/-- The invariant of the loop that writes the table: the ground truths, and the table's first rows derived from them. -/
def FillInv (d : Dev nD) (g : Buf (Elt F) (arg13.view.loc (thr d i))) (n : ℕ) (_ : BitVec 32) : sProp 𝕄 :=
  iprop((arg13.view.loc (thr d i) ↦{fullShare} g) ∗ ∃ f, ⌜Filled arg13 g arg15 n f⌝ ∗ arg15.view.loc (thr d i) ↦{fullShare} f)

/-- One trip of it. -/
theorem fill_inv_trip (d : Dev nD) (g : Buf (Elt F) (arg13.view.loc (thr d i))) (k : Fin k0_t1_loop.trips) (a : BitVec 32) :
    FillInv i arg13 arg15 d g k.val a
      ⊢ (wp frame (wpE (defs₀ (F := F)) 𝒱₀ (thr d i) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24_r0 v24_r1 v24_r2 v24_r3 v24_r4 v24_r5 v24_r6 v24_r7 k a)
          (FillInv i arg13 arg15 d g (k.val + 1)) : sProp 𝕄) := by
  unfold FillInv
  iintro ⟨H13, %f, %h, H15⟩
  iapply ((fill_trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24_r0 v24_r1 v24_r2 v24_r3 v24_r4 v24_r5 v24_r6 v24_r7 d k a g f).trans (wp_mono frame _ _ fun _ => ?post)) $$ [H13 H15]
  case post =>
    iintro ⟨H13, H15⟩
    isplitl [H13]; · iexact H13
    iexists _; isplitr
    · ipureintro; exact filled_step arg13 g arg15 k f h
    · iexact H15
  isplitl [H13] <;> iassumption

theorem fill_trips : Scf.trips k0_t1_loop.lb k0_t1_loop.ub k0_t1_loop.st = 8 := by decide
theorem chunk_trips : Scf.trips k0_t2_loop.lb k0_t2_loop.ub k0_t2_loop.st = 160 := by decide +kernel

/-- The contents a copy leaves, read back. -/
theorem landed {κ : Kind} {sp : Space} {s : Shape} {e : EltTy} (m : Memref sig κ sp s e) (f : m.view.ty.Contents (Elt F)) (g : s.Idx → Elt F e) :
    m.view.read (Elt F) (m.view.write (Elt F) f g Finset.univ) = g := m.view.read_write_univ f g

/-- The same of a copy into a part of a buffer. -/
theorem landed_piece {κ : Kind} {sp : Space} {s : Shape} {e : EltTy} (m : Memref sig κ sp s e) (f : m.view.ty.Contents (Elt F)) (g : s.Idx → Elt F e) (y : s.Idx) :
    m.view.read (Elt F) (m.view.writes (Elt F) f [⟨Rect.whole s, g⟩]) y = g y := by
  refine View.read_writes_apply_of_pieces m.view f g _ (fun p hp x => ?_) y ⟨_, List.mem_singleton.mpr rfl, ?_⟩
  · obtain rfl := List.mem_singleton.mp hp
    show g x = g ((Rect.whole s).emb x)
    rw [Rect.emb_whole_apply]
  · show y ∈ (Rect.whole s).set
    rw [Rect.set_whole]; exact Finset.mem_univ y

/-- The boxes after the last chunk, copied out. -/
theorem boxes_land {κ : Kind} {sp : Space} (m : Memref sig κ sp S7x2560 .f32) (f : m.view.ty.Contents (Elt F)) (b : Memref sig .scVector .vmem S7x2560 .f32) (t : b.view.ty.Contents (Elt F))
    (G : S7x2560.Idx → F .f32) (h : UpTo b G 160 t) (y : S7x2560.Idx) :
    m.view.read (Elt F) (m.view.writes (Elt F) f [⟨Rect.whole S7x2560, b.view.read (Elt F) t⟩]) y = G y :=
  (landed_piece m f _ y).trans (h y (Nat.lt_of_lt_of_le (y (1 : Fin 2)).isLt (show 2560 ≤ 16 * 160 by decide)))

/-- One of the two rows after the last chunk, copied out. -/
theorem row_lands {κ : Kind} {sp : Space} {e : EltTy} (m : Memref sig κ sp S2560 e) (f : m.view.ty.Contents (Elt F)) (b : Memref sig .scVector .vmem S2560 e) (t : b.view.ty.Contents (Elt F))
    (G : S2560.Idx → Elt F e) (h : VecUpTo b G 160 t) (y : S2560.Idx) :
    m.view.read (Elt F) (m.view.writes (Elt F) f [⟨Rect.whole S2560, b.view.read (Elt F) t⟩]) y = G y :=
  (landed_piece m f _ y).trans (h y (Nat.lt_of_lt_of_le (y (0 : Fin 1)).isLt (show 2560 ≤ 16 * 160 by decide)))

set_option maxHeartbeats 400000 in
/-- One tile's task at symbolic coordinates.  From its column blocks of the three inputs, its batch's rows of the two
tables of ground truths and whatever lies in the rest, it leaves in its blocks of the three results what the functions
of the columns say. -/
theorem tile_exec (d : Dev nD) (q : PosShare TreeShare) (f2 : Buf (Elt F) ((arg2.slice (Rect.unit (s := S6x81920) (k0_off1 i) S6x2560.size (k0_off1_inb i)) (fun _ => rfl)).view.loc (thr d i))) (f3 : Buf (Elt F) ((arg3.slice (Rect.unit (s := S7x81920) (k0_off2 i) S7x2560.size (k0_off2_inb i)) (fun _ => rfl)).view.loc (thr d i))) (f4 : Buf (Elt F) ((arg4.slice (Rect.unit (s := S81920) (k0_off3 i) S2560.size (k0_off3_inb i)) (fun _ => rfl)).view.loc (thr d i))) (f5 : Buf (Elt F) (((arg5.slice (Rect.unit (s := S4x896) (k0_off4 i) S1x896.size (k0_off4_inb i)) (fun _ => rfl)).squeeze S896 squeezes_S1x896_S896).view.loc (thr d i))) (f6 : Buf (Elt F) (((arg6.slice (Rect.unit (s := S4x128) (k0_off5 i) S1x128.size (k0_off5_inb i)) (fun _ => rfl)).squeeze S128 squeezes_S1x128_S128).view.loc (thr d i))) (f7 : Buf (Elt F) ((arg7.slice (Rect.unit (s := S7x81920) (k0_off2 i) S7x2560.size (k0_off2_inb i)) (fun _ => rfl)).view.loc (thr d i))) (f8 : Buf (Elt F) ((arg8.slice (Rect.unit (s := S81920) (k0_off3 i) S2560.size (k0_off3_inb i)) (fun _ => rfl)).view.loc (thr d i))) (f9 : Buf (Elt F) ((arg9.slice (Rect.unit (s := S81920) (k0_off3 i) S2560.size (k0_off3_inb i)) (fun _ => rfl)).view.loc (thr d i))) (O : CellTallies nD τ sig (HIx 1)) (W : Waits sig (HIx 1)) :
    iprop(Transfers.MayWaits (thr d i) none O ∗ (((arg2.slice (Rect.unit (s := S6x81920) (k0_off1 i) S6x2560.size (k0_off1_inb i)) (fun _ => rfl)).view.loc (thr d i) ↦[(arg2.slice (Rect.unit (s := S6x81920) (k0_off1 i) S6x2560.size (k0_off1_inb i)) (fun _ => rfl)).view.set]{fullShare} f2) ∗ ((arg3.slice (Rect.unit (s := S7x81920) (k0_off2 i) S7x2560.size (k0_off2_inb i)) (fun _ => rfl)).view.loc (thr d i) ↦[(arg3.slice (Rect.unit (s := S7x81920) (k0_off2 i) S7x2560.size (k0_off2_inb i)) (fun _ => rfl)).view.set]{fullShare} f3) ∗ ((arg4.slice (Rect.unit (s := S81920) (k0_off3 i) S2560.size (k0_off3_inb i)) (fun _ => rfl)).view.loc (thr d i) ↦[(arg4.slice (Rect.unit (s := S81920) (k0_off3 i) S2560.size (k0_off3_inb i)) (fun _ => rfl)).view.set]{fullShare} f4) ∗ (((arg5.slice (Rect.unit (s := S4x896) (k0_off4 i) S1x896.size (k0_off4_inb i)) (fun _ => rfl)).squeeze S896 squeezes_S1x896_S896).view.loc (thr d i) ↦[((arg5.slice (Rect.unit (s := S4x896) (k0_off4 i) S1x896.size (k0_off4_inb i)) (fun _ => rfl)).squeeze S896 squeezes_S1x896_S896).view.set]{q} f5) ∗ (((arg6.slice (Rect.unit (s := S4x128) (k0_off5 i) S1x128.size (k0_off5_inb i)) (fun _ => rfl)).squeeze S128 squeezes_S1x128_S128).view.loc (thr d i) ↦[((arg6.slice (Rect.unit (s := S4x128) (k0_off5 i) S1x128.size (k0_off5_inb i)) (fun _ => rfl)).squeeze S128 squeezes_S1x128_S128).view.set]{q} f6) ∗ ((arg7.slice (Rect.unit (s := S7x81920) (k0_off2 i) S7x2560.size (k0_off2_inb i)) (fun _ => rfl)).view.loc (thr d i) ↦[(arg7.slice (Rect.unit (s := S7x81920) (k0_off2 i) S7x2560.size (k0_off2_inb i)) (fun _ => rfl)).view.set]{fullShare} f7) ∗ ((arg8.slice (Rect.unit (s := S81920) (k0_off3 i) S2560.size (k0_off3_inb i)) (fun _ => rfl)).view.loc (thr d i) ↦[(arg8.slice (Rect.unit (s := S81920) (k0_off3 i) S2560.size (k0_off3_inb i)) (fun _ => rfl)).view.set]{fullShare} f8) ∗ ((arg9.slice (Rect.unit (s := S81920) (k0_off3 i) S2560.size (k0_off3_inb i)) (fun _ => rfl)).view.loc (thr d i) ↦[(arg9.slice (Rect.unit (s := S81920) (k0_off3 i) S2560.size (k0_off3_inb i)) (fun _ => rfl)).view.set]{fullShare} f9))
        ∗ ((∃ f, arg10.view.loc (thr d i) ↦{fullShare} f) ∗ (∃ f, arg11.view.loc (thr d i) ↦{fullShare} f) ∗ (∃ f, arg12.view.loc (thr d i) ↦{fullShare} f) ∗ (∃ f, arg13.view.loc (thr d i) ↦{fullShare} f) ∗ (∃ f, arg14.view.loc (thr d i) ↦{fullShare} f) ∗ (∃ f, arg15.view.loc (thr d i) ↦{fullShare} f) ∗ (∃ f, arg16.view.loc (thr d i) ↦{fullShare} f) ∗ (∃ f, arg17.view.loc (thr d i) ↦{fullShare} f) ∗ (∃ f, arg18.view.loc (thr d i) ↦{fullShare} f))
        ∗ (semVal (thr d i, SemLoc.dma v24_r0.sem) 0 ∗ semVal (thr d i, SemLoc.dma v24_r1.sem) 0 ∗ semVal (thr d i, SemLoc.dma v24_r2.sem) 0 ∗ semVal (thr d i, SemLoc.dma v24_r3.sem) 0 ∗ semVal (thr d i, SemLoc.dma v24_r4.sem) 0 ∗ semVal (thr d i, SemLoc.dma v24_r5.sem) 0 ∗ semVal (thr d i, SemLoc.dma v24_r6.sem) 0 ∗ semVal (thr d i, SemLoc.dma v24_r7.sem) 0) ∗ owes (thr d i) O W)
      ⊢ (wp frame (wpE (defs₀ (F := F)) 𝒱₀ (thr d i) none) Set.univ (cc0__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24_r0 v24_r1 v24_r2 v24_r3 v24_r4 v24_r5 v24_r6 v24_r7)
          fun _ => iprop((((arg2.slice (Rect.unit (s := S6x81920) (k0_off1 i) S6x2560.size (k0_off1_inb i)) (fun _ => rfl)).view.loc (thr d i) ↦[(arg2.slice (Rect.unit (s := S6x81920) (k0_off1 i) S6x2560.size (k0_off1_inb i)) (fun _ => rfl)).view.set]{fullShare} f2) ∗ ((arg3.slice (Rect.unit (s := S7x81920) (k0_off2 i) S7x2560.size (k0_off2_inb i)) (fun _ => rfl)).view.loc (thr d i) ↦[(arg3.slice (Rect.unit (s := S7x81920) (k0_off2 i) S7x2560.size (k0_off2_inb i)) (fun _ => rfl)).view.set]{fullShare} f3) ∗ ((arg4.slice (Rect.unit (s := S81920) (k0_off3 i) S2560.size (k0_off3_inb i)) (fun _ => rfl)).view.loc (thr d i) ↦[(arg4.slice (Rect.unit (s := S81920) (k0_off3 i) S2560.size (k0_off3_inb i)) (fun _ => rfl)).view.set]{fullShare} f4) ∗ (((arg5.slice (Rect.unit (s := S4x896) (k0_off4 i) S1x896.size (k0_off4_inb i)) (fun _ => rfl)).squeeze S896 squeezes_S1x896_S896).view.loc (thr d i) ↦[((arg5.slice (Rect.unit (s := S4x896) (k0_off4 i) S1x896.size (k0_off4_inb i)) (fun _ => rfl)).squeeze S896 squeezes_S1x896_S896).view.set]{q} f5) ∗ (((arg6.slice (Rect.unit (s := S4x128) (k0_off5 i) S1x128.size (k0_off5_inb i)) (fun _ => rfl)).squeeze S128 squeezes_S1x128_S128).view.loc (thr d i) ↦[((arg6.slice (Rect.unit (s := S4x128) (k0_off5 i) S1x128.size (k0_off5_inb i)) (fun _ => rfl)).squeeze S128 squeezes_S1x128_S128).view.set]{q} f6) ∗ (∃ g, ⌜∀ y, (arg7.slice (Rect.unit (s := S7x81920) (k0_off2 i) S7x2560.size (k0_off2_inb i)) (fun _ => rfl)).view.read (Elt F) g y = boxOut ((arg2.slice (Rect.unit (s := S6x81920) (k0_off1 i) S6x2560.size (k0_off1_inb i)) (fun _ => rfl)).view.read (Elt F) f2) ((arg3.slice (Rect.unit (s := S7x81920) (k0_off2 i) S7x2560.size (k0_off2_inb i)) (fun _ => rfl)).view.read (Elt F) f3) ((arg4.slice (Rect.unit (s := S81920) (k0_off3 i) S2560.size (k0_off3_inb i)) (fun _ => rfl)).view.read (Elt F) f4) (((arg5.slice (Rect.unit (s := S4x896) (k0_off4 i) S1x896.size (k0_off4_inb i)) (fun _ => rfl)).squeeze S896 squeezes_S1x896_S896).view.read (Elt F) f5) y⌝ ∗ ((arg7.slice (Rect.unit (s := S7x81920) (k0_off2 i) S7x2560.size (k0_off2_inb i)) (fun _ => rfl)).view.loc (thr d i) ↦[(arg7.slice (Rect.unit (s := S7x81920) (k0_off2 i) S7x2560.size (k0_off2_inb i)) (fun _ => rfl)).view.set]{fullShare} g)) ∗ (∃ g, ⌜∀ y, (arg8.slice (Rect.unit (s := S81920) (k0_off3 i) S2560.size (k0_off3_inb i)) (fun _ => rfl)).view.read (Elt F) g y = labOut ((arg2.slice (Rect.unit (s := S6x81920) (k0_off1 i) S6x2560.size (k0_off1_inb i)) (fun _ => rfl)).view.read (Elt F) f2) ((arg4.slice (Rect.unit (s := S81920) (k0_off3 i) S2560.size (k0_off3_inb i)) (fun _ => rfl)).view.read (Elt F) f4) (((arg5.slice (Rect.unit (s := S4x896) (k0_off4 i) S1x896.size (k0_off4_inb i)) (fun _ => rfl)).squeeze S896 squeezes_S1x896_S896).view.read (Elt F) f5) (((arg6.slice (Rect.unit (s := S4x128) (k0_off5 i) S1x128.size (k0_off5_inb i)) (fun _ => rfl)).squeeze S128 squeezes_S1x128_S128).view.read (Elt F) f6) y⌝ ∗ ((arg8.slice (Rect.unit (s := S81920) (k0_off3 i) S2560.size (k0_off3_inb i)) (fun _ => rfl)).view.loc (thr d i) ↦[(arg8.slice (Rect.unit (s := S81920) (k0_off3 i) S2560.size (k0_off3_inb i)) (fun _ => rfl)).view.set]{fullShare} g)) ∗ (∃ g, ⌜∀ y, (arg9.slice (Rect.unit (s := S81920) (k0_off3 i) S2560.size (k0_off3_inb i)) (fun _ => rfl)).view.read (Elt F) g y = maskOut ((arg2.slice (Rect.unit (s := S6x81920) (k0_off1 i) S6x2560.size (k0_off1_inb i)) (fun _ => rfl)).view.read (Elt F) f2) ((arg4.slice (Rect.unit (s := S81920) (k0_off3 i) S2560.size (k0_off3_inb i)) (fun _ => rfl)).view.read (Elt F) f4) (((arg5.slice (Rect.unit (s := S4x896) (k0_off4 i) S1x896.size (k0_off4_inb i)) (fun _ => rfl)).squeeze S896 squeezes_S1x896_S896).view.read (Elt F) f5) y⌝ ∗ ((arg9.slice (Rect.unit (s := S81920) (k0_off3 i) S2560.size (k0_off3_inb i)) (fun _ => rfl)).view.loc (thr d i) ↦[(arg9.slice (Rect.unit (s := S81920) (k0_off3 i) S2560.size (k0_off3_inb i)) (fun _ => rfl)).view.set]{fullShare} g)))
            ∗ ((∃ f, arg10.view.loc (thr d i) ↦{fullShare} f) ∗ (∃ f, arg11.view.loc (thr d i) ↦{fullShare} f) ∗ (∃ f, arg12.view.loc (thr d i) ↦{fullShare} f) ∗ (∃ f, arg13.view.loc (thr d i) ↦{fullShare} f) ∗ (∃ f, arg14.view.loc (thr d i) ↦{fullShare} f) ∗ (∃ f, arg15.view.loc (thr d i) ↦{fullShare} f) ∗ (∃ f, arg16.view.loc (thr d i) ↦{fullShare} f) ∗ (∃ f, arg17.view.loc (thr d i) ↦{fullShare} f) ∗ (∃ f, arg18.view.loc (thr d i) ↦{fullShare} f))
            ∗ (semVal (thr d i, SemLoc.dma v24_r0.sem) 0 ∗ semVal (thr d i, SemLoc.dma v24_r1.sem) 0 ∗ semVal (thr d i, SemLoc.dma v24_r2.sem) 0 ∗ semVal (thr d i, SemLoc.dma v24_r3.sem) 0 ∗ semVal (thr d i, SemLoc.dma v24_r4.sem) 0 ∗ semVal (thr d i, SemLoc.dma v24_r5.sem) 0 ∗ semVal (thr d i, SemLoc.dma v24_r6.sem) 0 ∗ semVal (thr d i, SemLoc.dma v24_r7.sem) 0)
            ∗ ∃ W', ⌜∀ p ∈ W', p ∈ W ∨ p.2 = none⌝ ∗ owes (thr d i) O W') : sProp 𝕄) := by
  rw [cc0__sc_body_eq_skeleton]; unfold cc0__sc_body_skel
  iintro ⟨#Hmw, ⟨H2, H3, H4, H5, H6, H7, H8, H9⟩, ⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩,
    ⟨S0, S1, S2, S3, S4, S5, S6, S7⟩, HO⟩
  sl_exec
  sl_for (FillInv i arg13 arg15 d (arg13.view.write (Elt F) f13 (((arg5.slice (Rect.unit (s := S4x896) (k0_off4 i) S1x896.size (k0_off4_inb i)) (fun _ => rfl)).squeeze S896 squeezes_S1x896_S896).view.read (Elt F) f5) Finset.univ)) $$ [H13 H15]
  case region => intro k a; exact fill_inv_trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24_r0 v24_r1 v24_r2 v24_r3 v24_r4 v24_r5 v24_r6 v24_r7 d _ k a
  · unfold FillInv
    isplitl [H13]; · iexact H13
    iexists f15; isplitr
    · ipureintro; exact fun y hy => absurd hy (by omega)
    · iexact H15
  iintro %a1 HI
  unfold FillInv
  icases HI with ⟨H13, %t15, %h15, H15⟩
  rw [fill_trips] at h15
  have hf : ∀ y, arg15.view.read (Elt F) t15 y = table (arg13.view.read (Elt F) (arg13.view.write (Elt F) f13 (((arg5.slice (Rect.unit (s := S4x896) (k0_off4 i) S1x896.size (k0_off4_inb i)) (fun _ => rfl)).squeeze S896 squeezes_S1x896_S896).view.read (Elt F) f5) Finset.univ)) y := fun y =>
    h15 y (by have := Nat.mod_lt ((y 0).val / 16) (show 0 < 128 by decide); omega)
  sl_for (ChunkInv i arg10 arg11 arg12 arg13 arg14 arg15 arg16 arg17 arg18 d (arg10.view.write (Elt F) f10 ((arg2.slice (Rect.unit (s := S6x81920) (k0_off1 i) S6x2560.size (k0_off1_inb i)) (fun _ => rfl)).view.read (Elt F) f2) Finset.univ) (arg11.view.write (Elt F) f11 ((arg3.slice (Rect.unit (s := S7x81920) (k0_off2 i) S7x2560.size (k0_off2_inb i)) (fun _ => rfl)).view.read (Elt F) f3) Finset.univ) (arg12.view.write (Elt F) f12 ((arg4.slice (Rect.unit (s := S81920) (k0_off3 i) S2560.size (k0_off3_inb i)) (fun _ => rfl)).view.read (Elt F) f4) Finset.univ) (arg13.view.write (Elt F) f13 (((arg5.slice (Rect.unit (s := S4x896) (k0_off4 i) S1x896.size (k0_off4_inb i)) (fun _ => rfl)).squeeze S896 squeezes_S1x896_S896).view.read (Elt F) f5) Finset.univ) (arg14.view.write (Elt F) f14 (((arg6.slice (Rect.unit (s := S4x128) (k0_off5 i) S1x128.size (k0_off5_inb i)) (fun _ => rfl)).squeeze S128 squeezes_S1x128_S128).view.read (Elt F) f6) Finset.univ) t15) $$ [H10 H11 H12 H13 H14 H15 H16 H17 H18]
  case region => intro k a; exact chunk_trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v24_r0 v24_r1 v24_r2 v24_r3 v24_r4 v24_r5 v24_r6 v24_r7 d _ _ _ _ _ _ hf k a
  · unfold ChunkInv
    isplitl [H10]; · iexact H10
    isplitl [H11]; · iexact H11
    isplitl [H12]; · iexact H12
    isplitl [H13]; · iexact H13
    isplitl [H14]; · iexact H14
    isplitl [H15]; · iexact H15
    isplitl [H16]
    · iexists f16; isplitr
      · ipureintro; exact fun y hy => absurd hy (by omega)
      · iexact H16
    isplitl [H17]
    · iexists f17; isplitr
      · ipureintro; exact fun y hy => absurd hy (by omega)
      · iexact H17
    · iexists f18; isplitr
      · ipureintro; exact fun y hy => absurd hy (by omega)
      · iexact H18
  iintro %a2 HI
  unfold ChunkInv
  icases HI with ⟨H10, H11, H12, H13, H14, H15, ⟨%t16, %h16, H16⟩, ⟨%t17, %h17, H17⟩, ⟨%t18, %h18, H18⟩⟩
  rw [landed, landed, landed, landed, chunk_trips] at h16 h17
  rw [landed, landed, landed, chunk_trips] at h18
  iapply (copies_out d i (arg7.slice (Rect.unit (s := S7x81920) (k0_off2 i) S7x2560.size (k0_off2_inb i)) (fun _ => rfl)) (View.wordExact_bits rfl) arg16 harg16 v24_r5 (arg8.slice (Rect.unit (s := S81920) (k0_off3 i) S2560.size (k0_off3_inb i)) (fun _ => rfl)) (View.wordExact_bits rfl) arg17 harg17 v24_r6 (arg9.slice (Rect.unit (s := S81920) (k0_off3 i) S2560.size (k0_off3_inb i)) (fun _ => rfl)) (View.wordExact_bits rfl) arg18 harg18 v24_r7
    f7 t16 f8 t17 f9 t18 O _ _) $$ [H7 H16 S5 H8 H17 S6 H9 H18 S7 HO]
  · isplitr; · iexact Hmw
    isplitl [H7]; · iexact H7
    isplitl [H16]; · iexact H16
    isplitl [S5]; · iexact S5
    isplitl [H8]; · iexact H8
    isplitl [H17]; · iexact H17
    isplitl [S6]; · iexact S6
    isplitl [H9]; · iexact H9
    isplitl [H18]; · iexact H18
    isplitl [S7]; · iexact S7
    iexact HO
  iintro ⟨H7, H16, S5, H8, H17, S6, H9, H18, S7, HO⟩
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]
    · iexists _; isplitr
      on_goal 2 => iexact H7
      ipureintro
      exact boxes_land (arg7.slice (Rect.unit (s := S7x81920) (k0_off2 i) S7x2560.size (k0_off2_inb i)) (fun _ => rfl)) f7 arg16 t16 _ h16
    isplitl [H8]
    · iexists _; isplitr
      on_goal 2 => iexact H8
      ipureintro
      exact row_lands (arg8.slice (Rect.unit (s := S81920) (k0_off3 i) S2560.size (k0_off3_inb i)) (fun _ => rfl)) f8 arg17 t17 _ h17
    · iexists _; isplitr
      on_goal 2 => iexact H9
      ipureintro
      exact row_lands (arg9.slice (Rect.unit (s := S81920) (k0_off3 i) S2560.size (k0_off3_inb i)) (fun _ => rfl)) f9 arg18 t18 _ h18
  isplitl [H10 H11 H12 H13 H14 H15 H16 H17 H18]
  · isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iexists _; isplitr
  on_goal 2 => iexact HO
  ipureintro; intro p hp
  simp only [Finset.mem_insert] at hp
  rcases hp with rfl | rfl | rfl | rfl | rfl | rfl | rfl | rfl | hp
  iterate 8 exact .inr rfl
  exact .inl hp

end Cert.Proof.Ideal
-- ==== Proof.Results.lean ====
/-
  The three arrays the call leaves, as functions of the five arrays it reads: 81920 columns, of which the 20480 of each
  batch go with that batch's row of ground truths.
-/
module

public import proofs.«01_k».proof.Proof.Values

@[expose] public section

noncomputable section

namespace Cert.Proof.Values

open Idealize.ShloMosaic

variable {F : FTy → Type} [FloatOps F]

/-- The batch that column `n` belongs to. -/
def batch (n : Fin 81920) : Fin 4 := ⟨n.val / 20480, by omega⟩

/-- A batch's row of a table with a row per batch, as the flat array a copy of it is. -/
def brow {α : Type} {c : ℕ} (X : (⟨2, ![4, c]⟩ : Shape).Idx → α) (b : Fin 4) : (⟨1, ![c]⟩ : Shape).Idx → α := fun x => X (ix2 b (x 0))

/-- The assigned boxes, a coordinate per row. -/
def boxes (r : (⟨2, ![6, 81920]⟩ : Shape).Idx → F .f32) (a : (⟨2, ![7, 81920]⟩ : Shape).Idx → F .f32) (l : (⟨1, ![81920]⟩ : Shape).Idx → BitVec 32)
    (g : (⟨2, ![4, 896]⟩ : Shape).Idx → F .f32) : (⟨2, ![7, 81920]⟩ : Shape).Idx → F .f32 :=
  fun z => outBox (col r (z 1)) (col a (z 1)) (l (ix1 (z 1))) (gtBox (brow g (batch (z 1)))) (z 0)

/-- The assigned labels. -/
def labels (r : (⟨2, ![6, 81920]⟩ : Shape).Idx → F .f32) (l : (⟨1, ![81920]⟩ : Shape).Idx → BitVec 32)
    (g : (⟨2, ![4, 896]⟩ : Shape).Idx → F .f32) (gl : (⟨2, ![4, 128]⟩ : Shape).Idx → BitVec 32) : (⟨1, ![81920]⟩ : Shape).Idx → BitVec 32 :=
  fun z => outLab (col r (z 0)) (l (ix1 (z 0))) (gtBox (brow g (batch (z 0)))) (fun k => brow gl (batch (z 0)) (ix1 k))

/-- The masks. -/
def masks (r : (⟨2, ![6, 81920]⟩ : Shape).Idx → F .f32) (l : (⟨1, ![81920]⟩ : Shape).Idx → BitVec 32)
    (g : (⟨2, ![4, 896]⟩ : Shape).Idx → F .f32) : (⟨1, ![81920]⟩ : Shape).Idx → F .f32 :=
  fun z => outMask (col r (z 0)) (l (ix1 (z 0))) (gtBox (brow g (batch (z 0))))

end Cert.Proof.Values

end
-- ==== Proof.Ideal.Blocks.lean ====
module

public import proofs.«01_k».proof.Proof.Ideal.Tile
public import proofs.«01_k».proof.Proof.Results

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

/-! ## The tile's number and its columns -/

/-- The number of the tile at `i`, of 32. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

/-- The columns of tile `w`, in an array of `r` rows. -/
def colsM (r : ℕ) (w : ℕ) : Finset (⟨2, ![r, 81920]⟩ : Shape).Idx := Finset.univ.filter fun y => (y (1 : Fin 2)).val / 2560 = w

/-- The same in a vector. -/
def colsV (w : ℕ) : Finset (⟨1, ![81920]⟩ : Shape).Idx := Finset.univ.filter fun y => (y (0 : Fin 1)).val / 2560 = w

theorem off_base (i : grid0.Coords) : 5120 * (i 1).val + 2560 * (i 0).val = 2560 * wid i := by unfold wid; omega

theorem set_colsM {r : ℕ} (off size : Fin 2 → ℕ) (inb) (w : ℕ) (h0 : off 0 = 0) (h1 : off 1 = 2560 * w) (s0 : size 0 = r) (s1 : size 1 = 2560) :
    (Rect.unit (s := ⟨2, ![r, 81920]⟩) off size inb).set = colsM r w := by
  ext y
  have hy : (y (0 : Fin 2)).val < r := (y (0 : Fin 2)).isLt
  rw [Rect.mem_set_unit, colsM, Finset.mem_filter, Fin.forall_fin_two, h0, h1, s0, s1]
  constructor
  · rintro ⟨-, h⟩; exact ⟨Finset.mem_univ y, by omega⟩
  · rintro ⟨-, h⟩; constructor <;> omega

theorem set_colsV (off size : Fin 1 → ℕ) (inb) (w : ℕ) (h0 : off 0 = 2560 * w) (s0 : size 0 = 2560) :
    (Rect.unit (s := ⟨1, ![81920]⟩) off size inb).set = colsV w := by
  ext y
  rw [Rect.mem_set_unit, colsV, Finset.mem_filter, Fin.forall_fin_one, h0, s0]
  constructor
  · rintro h; exact ⟨Finset.mem_univ y, by omega⟩
  · rintro ⟨-, h⟩; omega

/-- Where a tile's columns lie among all. -/
def colAt (i : grid0.Coords) (n : Fin 2560) : Fin 81920 := ⟨2560 * wid i + n.val, by have := wid_lt i; omega⟩

theorem colAt_batch (i : grid0.Coords) (n : Fin 2560) : (batch (colAt i n)).val = wid i / 8 := by
  show (2560 * wid i + n.val) / 20480 = _; omega

theorem emb_colsM {r : ℕ} (i : grid0.Coords) (off : Fin 2 → ℕ) (inb) (h0 : off 0 = 0) (h1 : off 1 = 2560 * wid i) (y : (⟨2, ![r, 2560]⟩ : Shape).Idx) :
    (Rect.unit (s := ⟨2, ![r, 81920]⟩) off ![r, 2560] inb).emb y = ix2 (y 0) (colAt i (y 1)) := by
  refine idx2_ext ?_ ?_ <;> rw [Rect.emb_apply]
  · show off 0 + 1 * (y 0).val = (y 0).val; omega
  · show off 1 + 1 * (y 1).val = 2560 * wid i + (y 1).val; omega

theorem emb_colsV (i : grid0.Coords) (off : Fin 1 → ℕ) (inb) (h0 : off 0 = 2560 * wid i) (y : (⟨1, ![2560]⟩ : Shape).Idx) :
    (Rect.unit (s := ⟨1, ![81920]⟩) off ![2560] inb).emb y = ix1 (colAt i (y 0)) := by
  refine Shape.idx1_ext ?_; rw [Rect.emb_apply]
  show off 0 + 1 * (y 0).val = 2560 * wid i + (y 0).val; omega

theorem off4_row : ∀ i : grid0.Coords, k0_off4 i = ![(2 * (i 1).val + (i 0).val) / 8, 0] := by decide +kernel
theorem off5_row : ∀ i : grid0.Coords, k0_off5 i = ![(2 * (i 1).val + (i 0).val) / 8, 0] := by decide +kernel

/-- The batch of a tile's columns. -/
def tbatch (i : grid0.Coords) : Fin 4 := ⟨wid i / 8, by have := wid_lt i; omega⟩

theorem batch_colAt (i : grid0.Coords) (n : Fin 2560) : batch (colAt i n) = tbatch i := Fin.ext (colAt_batch i n)

/-- One row of a table, squeezed: where its elements lie. -/
theorem emb_row {c : ℕ} (i : grid0.Coords) (off : Fin 2 → ℕ) (inb) (h0 : off 0 = wid i / 8) (h1 : off 1 = 0) (h : (⟨1, ![c]⟩ : Shape).numel = (⟨2, ![1, c]⟩ : Shape).numel) (x : (⟨1, ![c]⟩ : Shape).Idx) :
    (Rect.unit (s := ⟨2, ![4, c]⟩) off ![1, c] inb).emb (Shape.reshapeEquiv h x) = ix2 (tbatch i) (x 0) := by
  have hx : Shape.reshapeEquiv h x = Fin.cons ⟨0, Nat.one_pos⟩ x := Shape.reshapeEquiv_cons_one h x
  rw [hx]
  refine idx2_ext ?_ ?_ <;> rw [Rect.emb_apply]
  · show off 0 + 1 * 0 = wid i / 8; omega
  · show off 1 + 1 * (x 0).val = (x 0).val; omega

end Cert.Proof.Ideal

end
-- ==== Proof.Ideal.Own.lean ====
module

public import proofs.«01_k».proof.Proof.Ideal.Common
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

/-! ## What a tile owns: its nine scratch arrays and its eight semaphores, and the rest -/

/-- The kernel's scratch arrays. -/
def scratches : Finset (Ref sig .scVector) :=
  {cc0_scratch0, cc0_scratch1, cc0_scratch2, cc0_scratch3, cc0_scratch4, cc0_scratch5, cc0_scratch6, cc0_scratch7, cc0_scratch8}

/-- The semaphores its copies signal. -/
def copySems : Finset (SemLoc sig) :=
  {SemLoc.dma cc0_scoped0.sem, SemLoc.dma cc0_scoped1.sem, SemLoc.dma cc0_scoped2.sem, SemLoc.dma cc0_scoped3.sem,
    SemLoc.dma cc0_scoped4.sem, SemLoc.dma cc0_scoped5.sem, SemLoc.dma cc0_scoped6.sem, SemLoc.dma cc0_scoped7.sem}

theorem scratches_owner : ∀ r ∈ scratches, ∀ c j, ((Proc.scVector c j).devRef r : DevRef τ sig).owner = .proc (.scVector c j) := by
  unfold scratches
  simp only [Finset.forall_mem_insert, Finset.mem_singleton, forall_eq]
  exact ⟨fun _ _ => rfl, fun _ _ => rfl, fun _ _ => rfl, fun _ _ => rfl, fun _ _ => rfl, fun _ _ => rfl, fun _ _ => rfl, fun _ _ => rfl, fun _ _ => rfl⟩

theorem copySems_scoped : ∀ s ∈ copySems, s.isScoped .scVector = true := by decide

/-- The buffers of a tile besides its scratch arrays. -/
def restBufs (d : Dev nD) (c : Fin τ.nSC) (j : Fin τ.nSub) : sProp 𝕄 :=
  bigSep (SparseCore.Cfg.ownRefs (sig := sig) (Proc.scVector c j) \ scratches.image (Proc.scVector c j).devRef) fun b => iprop(∃ f, ((d, b) : Loc nD τ sig) ↦{fullShare} f)

/-- The semaphores of a tile besides those its copies signal. -/
def restSems (d : Dev nD) (c : Fin τ.nSC) (j : Fin τ.nSub) : sProp 𝕄 :=
  bigSep (SparseCore.Cfg.ownCells (V d c j) \ copySems.image fun s => (V d c j, s)) fun g => semVal g 0

omit [FloatOps F] in
theorem bigSep_scratches (Φ : Ref sig .scVector → sProp 𝕄) :
    bigSep scratches Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7 ∗ Φ cc0_scratch8) := by
  unfold scratches
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem ownBufs_tile (d : Dev nD) (c : Fin τ.nSC) (j : Fin τ.nSub) :
    (SparseCore.Cfg.ownBufs (V d c j) : sProp 𝕄)
      = iprop(((∃ f, (V d c j).loc cc0_scratch0 ↦{fullShare} f) ∗ (∃ f, (V d c j).loc cc0_scratch1 ↦{fullShare} f) ∗ (∃ f, (V d c j).loc cc0_scratch2 ↦{fullShare} f)
          ∗ (∃ f, (V d c j).loc cc0_scratch3 ↦{fullShare} f) ∗ (∃ f, (V d c j).loc cc0_scratch4 ↦{fullShare} f) ∗ (∃ f, (V d c j).loc cc0_scratch5 ↦{fullShare} f)
          ∗ (∃ f, (V d c j).loc cc0_scratch6 ↦{fullShare} f) ∗ (∃ f, (V d c j).loc cc0_scratch7 ↦{fullShare} f) ∗ (∃ f, (V d c j).loc cc0_scratch8 ↦{fullShare} f))
        ∗ restBufs d c j) := by
  unfold SparseCore.Cfg.ownBufs restBufs
  have hsub : scratches.image (Proc.scVector c j).devRef ⊆ SparseCore.Cfg.ownRefs (sig := sig) (Proc.scVector c j) := fun b hb => by
    obtain ⟨r, hr, rfl⟩ := Finset.mem_image.mp hb
    exact SparseCore.Cfg.mem_ownRefs_of_owner (scratches_owner r hr c j)
  refine (SparseCore.bigSep_sdiff_split' hsub).trans ?_
  rw [SparseCore.bigSep_image_of_injOn ((Proc.devRef_injective _).injOn), bigSep_scratches]

omit [FloatOps F] in
theorem ownSems_tile (d : Dev nD) (c : Fin τ.nSC) (j : Fin τ.nSub) :
    (SparseCore.Cfg.ownSems0 (V d c j) : sProp 𝕄)
      = iprop((semVal (V d c j, SemLoc.dma cc0_scoped0.sem) 0 ∗ semVal (V d c j, SemLoc.dma cc0_scoped1.sem) 0 ∗ semVal (V d c j, SemLoc.dma cc0_scoped2.sem) 0
          ∗ semVal (V d c j, SemLoc.dma cc0_scoped3.sem) 0 ∗ semVal (V d c j, SemLoc.dma cc0_scoped4.sem) 0 ∗ semVal (V d c j, SemLoc.dma cc0_scoped5.sem) 0
          ∗ semVal (V d c j, SemLoc.dma cc0_scoped6.sem) 0 ∗ semVal (V d c j, SemLoc.dma cc0_scoped7.sem) 0)
        ∗ restSems d c j) := by
  unfold SparseCore.Cfg.ownSems0 restSems
  have hsub : (copySems.image fun s => ((V d c j, s) : GSem nD τ sig)) ⊆ SparseCore.Cfg.ownCells (V d c j) := fun b hb => by
    obtain ⟨r, hr, rfl⟩ := Finset.mem_image.mp hb
    exact SparseCore.Cfg.mem_ownCells.mpr ⟨rfl, copySems_scoped r hr⟩
  refine (SparseCore.bigSep_sdiff_split' hsub).trans ?_
  rw [SparseCore.bigSep_image_of_injOn (fun _ _ _ _ e => (Prod.mk.inj e).2)]
  unfold copySems
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end Cert.Proof.Ideal

end
-- ==== Proof.Ideal.Task.lean ====
module

public import proofs.«01_k».proof.Proof.Ideal.Blocks
public import proofs.«01_k».proof.Proof.Ideal.Own
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

/-! ## The eight blocks a task names, at the arrays of the launch -/

abbrev rpnRows (i : grid0.Coords) : Memref sig .scVector .hbm S6x2560 .f32 := (Memref.whole main_v3_scv).slice (Rect.unit (s := S6x81920) (k0_off1 i) S6x2560.size (k0_off1_inb i)) (fun _ => rfl)
abbrev assignedRows (i : grid0.Coords) : Memref sig .scVector .hbm S7x2560 .f32 := (Memref.whole main_v6_scv).slice (Rect.unit (s := S7x81920) (k0_off2 i) S7x2560.size (k0_off2_inb i)) (fun _ => rfl)
abbrev labelRow (i : grid0.Coords) : Memref sig .scVector .hbm S2560 .i32 := (Memref.whole main_v8_scv).slice (Rect.unit (s := S81920) (k0_off3 i) S2560.size (k0_off3_inb i)) (fun _ => rfl)
abbrev truthRow (i : grid0.Coords) : Memref sig .scVector .hbm S896 .f32 := ((Memref.whole main_v10_scv).slice (Rect.unit (s := S4x896) (k0_off4 i) S1x896.size (k0_off4_inb i)) (fun _ => rfl)).squeeze S896 squeezes_S1x896_S896
abbrev truthLabels (i : grid0.Coords) : Memref sig .scVector .hbm S128 .i32 := ((Memref.whole main_arg2_scv).slice (Rect.unit (s := S4x128) (k0_off5 i) S1x128.size (k0_off5_inb i)) (fun _ => rfl)).squeeze S128 squeezes_S1x128_S128
abbrev boxRows (i : grid0.Coords) : Memref sig .scVector .hbm S7x2560 .f32 := (Memref.whole main_v11_0_scv).slice (Rect.unit (s := S7x81920) (k0_off2 i) S7x2560.size (k0_off2_inb i)) (fun _ => rfl)
abbrev newLabels (i : grid0.Coords) : Memref sig .scVector .hbm S2560 .i32 := (Memref.whole main_v11_1_scv).slice (Rect.unit (s := S81920) (k0_off3 i) S2560.size (k0_off3_inb i)) (fun _ => rfl)
abbrev maskRow (i : grid0.Coords) : Memref sig .scVector .hbm S2560 .f32 := (Memref.whole main_v11_2_scv).slice (Rect.unit (s := S81920) (k0_off3 i) S2560.size (k0_off3_inb i)) (fun _ => rfl)

theorem off1_base (i : grid0.Coords) : k0_off1 i 0 = 0 ∧ k0_off1 i 1 = 2560 * wid i := by
  rw [k0_off1_eq, ← off_base]; exact ⟨rfl, rfl⟩
theorem off2_base (i : grid0.Coords) : k0_off2 i 0 = 0 ∧ k0_off2 i 1 = 2560 * wid i := by
  rw [k0_off2_eq, ← off_base]; exact ⟨rfl, rfl⟩
theorem off3_base (i : grid0.Coords) : k0_off3 i 0 = 2560 * wid i := by
  rw [k0_off3_eq, ← off_base]; rfl
theorem off4_base (i : grid0.Coords) : k0_off4 i 0 = wid i / 8 ∧ k0_off4 i 1 = 0 := by
  rw [off4_row]; exact ⟨rfl, rfl⟩
theorem off5_base (i : grid0.Coords) : k0_off5 i 0 = wid i / 8 ∧ k0_off5 i 1 = 0 := by
  rw [off5_row]; exact ⟨rfl, rfl⟩

theorem rpnRows_set (i : grid0.Coords) : (rpnRows i).view.set = colsM 6 (wid i) :=
  (View.set_slice_whole _ _).trans (set_colsM _ _ _ _ (off1_base i).1 (off1_base i).2 rfl rfl)
theorem assignedRows_set (i : grid0.Coords) : (assignedRows i).view.set = colsM 7 (wid i) :=
  (View.set_slice_whole _ _).trans (set_colsM _ _ _ _ (off2_base i).1 (off2_base i).2 rfl rfl)
theorem labelRow_set (i : grid0.Coords) : (labelRow i).view.set = colsV (wid i) :=
  (View.set_slice_whole _ _).trans (set_colsV _ _ _ _ (off3_base i) rfl)
theorem boxRows_set (i : grid0.Coords) : (boxRows i).view.set = colsM 7 (wid i) :=
  (View.set_slice_whole _ _).trans (set_colsM _ _ _ _ (off2_base i).1 (off2_base i).2 rfl rfl)
theorem newLabels_set (i : grid0.Coords) : (newLabels i).view.set = colsV (wid i) :=
  (View.set_slice_whole _ _).trans (set_colsV _ _ _ _ (off3_base i) rfl)
theorem maskRow_set (i : grid0.Coords) : (maskRow i).view.set = colsV (wid i) :=
  (View.set_slice_whole _ _).trans (set_colsV _ _ _ _ (off3_base i) rfl)

/-! ### What the blocks hold -/

theorem rpnRows_read (i : grid0.Coords) (f : S6x81920.Idx → F .f32) (y : S6x2560.Idx) :
    (rpnRows i).view.read (Elt F) f y = f (ix2 (y 0) (colAt i (y 1))) := by
  show f ((Rect.unit (s := S6x81920) (k0_off1 i) S6x2560.size (k0_off1_inb i)).emb y) = _
  exact congrArg f (emb_colsM i _ _ (off1_base i).1 (off1_base i).2 y)
theorem assignedRows_read (i : grid0.Coords) (f : S7x81920.Idx → F .f32) (y : S7x2560.Idx) :
    (assignedRows i).view.read (Elt F) f y = f (ix2 (y 0) (colAt i (y 1))) := by
  show f ((Rect.unit (s := S7x81920) (k0_off2 i) S7x2560.size (k0_off2_inb i)).emb y) = _
  exact congrArg f (emb_colsM i _ _ (off2_base i).1 (off2_base i).2 y)
theorem labelRow_read (i : grid0.Coords) (f : S81920.Idx → BitVec 32) (y : S2560.Idx) :
    (labelRow i).view.read (Elt F) f y = f (ix1 (colAt i (y 0))) := by
  show f ((Rect.unit (s := S81920) (k0_off3 i) S2560.size (k0_off3_inb i)).emb y) = _
  exact congrArg f (emb_colsV i _ _ (off3_base i) y)
theorem truthRow_read (i : grid0.Coords) (f : S4x896.Idx → F .f32) : (truthRow i).view.read (Elt F) f = brow f (tbatch i) := by
  funext x
  show f ((Rect.unit (s := S4x896) (k0_off4 i) S1x896.size (k0_off4_inb i)).emb (Shape.reshapeEquiv _ x)) = _
  exact congrArg f (emb_row i _ _ (off4_base i).1 (off4_base i).2 _ x)
theorem truthLabels_read (i : grid0.Coords) (f : S4x128.Idx → BitVec 32) : (truthLabels i).view.read (Elt F) f = brow f (tbatch i) := by
  funext x
  show f ((Rect.unit (s := S4x128) (k0_off5 i) S1x128.size (k0_off5_inb i)).emb (Shape.reshapeEquiv _ x)) = _
  exact congrArg f (emb_row i _ _ (off5_base i).1 (off5_base i).2 _ x)

theorem rpnRows_col (i : grid0.Coords) (f : S6x81920.Idx → F .f32) (n : Fin 2560) : col ((rpnRows i).view.read (Elt F) f) n = col f (colAt i n) :=
  funext fun k => rpnRows_read i f (ix2 k n)
theorem assignedRows_col (i : grid0.Coords) (f : S7x81920.Idx → F .f32) (n : Fin 2560) : col ((assignedRows i).view.read (Elt F) f) n = col f (colAt i n) :=
  funext fun k => assignedRows_read i f (ix2 k n)

/-- What a task leaves in its columns is what the call leaves there. -/
theorem boxes_at (i : grid0.Coords) (n : Fin 2560) (k : Fin 7) (r : S6x81920.Idx → F .f32) (a : S7x81920.Idx → F .f32) (l : S81920.Idx → BitVec 32) (g : S4x896.Idx → F .f32) :
    outBox (col ((rpnRows i).view.read (Elt F) r) n) (col ((assignedRows i).view.read (Elt F) a) n) ((labelRow i).view.read (Elt F) l (ix1 n)) (gtBox (brow g (tbatch i))) k
      = boxes r a l g (ix2 k (colAt i n)) := by
  show _ = outBox (col r (colAt i n)) (col a (colAt i n)) (l (ix1 (colAt i n))) (gtBox (brow g (batch (colAt i n)))) k
  rw [batch_colAt, labelRow_read, rpnRows_col, assignedRows_col]
  rfl
theorem labels_at (i : grid0.Coords) (n : Fin 2560) (r : S6x81920.Idx → F .f32) (l : S81920.Idx → BitVec 32) (g : S4x896.Idx → F .f32) (gl : S4x128.Idx → BitVec 32) :
    outLab (col ((rpnRows i).view.read (Elt F) r) n) ((labelRow i).view.read (Elt F) l (ix1 n)) (gtBox (brow g (tbatch i))) (fun k => brow gl (tbatch i) (ix1 k))
      = labels r l g gl (ix1 (colAt i n)) := by
  show _ = outLab (col r (colAt i n)) (l (ix1 (colAt i n))) (gtBox (brow g (batch (colAt i n)))) (fun k => brow gl (batch (colAt i n)) (ix1 k))
  rw [batch_colAt, labelRow_read, rpnRows_col]
  rfl
theorem masks_at (i : grid0.Coords) (n : Fin 2560) (r : S6x81920.Idx → F .f32) (l : S81920.Idx → BitVec 32) (g : S4x896.Idx → F .f32) :
    outMask (col ((rpnRows i).view.read (Elt F) r) n) ((labelRow i).view.read (Elt F) l (ix1 n)) (gtBox (brow g (tbatch i))) = masks r l g (ix1 (colAt i n)) := by
  show _ = outMask (col r (colAt i n)) (l (ix1 (colAt i n))) (gtBox (brow g (batch (colAt i n))))
  rw [batch_colAt, labelRow_read, rpnRows_col]
  rfl

theorem boxRows_final (i : grid0.Coords) (r : S6x81920.Idx → F .f32) (a : S7x81920.Idx → F .f32) (l : S81920.Idx → BitVec 32) (g : S4x896.Idx → F .f32) (h : S7x81920.Idx → F .f32)
    (hh : ∀ y, (boxRows i).view.read (Elt F) h y = boxOut ((rpnRows i).view.read (Elt F) r) ((assignedRows i).view.read (Elt F) a) ((labelRow i).view.read (Elt F) l) ((truthRow i).view.read (Elt F) g) y) :
    ∀ z ∈ (boxRows i).view.set, h z = boxes r a l g z := by
  intro z hz
  obtain ⟨y, -, rfl⟩ := Finset.mem_map.mp hz
  refine (hh y).trans ?_
  rw [truthRow_read]
  exact (boxes_at i (y 1) (y 0) r a l g).trans (congrArg (boxes r a l g) (emb_colsM i _ (k0_off2_inb i) (off2_base i).1 (off2_base i).2 y).symm)
theorem newLabels_final (i : grid0.Coords) (r : S6x81920.Idx → F .f32) (l : S81920.Idx → BitVec 32) (g : S4x896.Idx → F .f32) (gl : S4x128.Idx → BitVec 32) (h : S81920.Idx → BitVec 32)
    (hh : ∀ y, (newLabels i).view.read (Elt F) h y = labOut ((rpnRows i).view.read (Elt F) r) ((labelRow i).view.read (Elt F) l) ((truthRow i).view.read (Elt F) g) ((truthLabels i).view.read (Elt F) gl) y) :
    ∀ z ∈ (newLabels i).view.set, h z = labels r l g gl z := by
  intro z hz
  obtain ⟨y, -, rfl⟩ := Finset.mem_map.mp hz
  refine (hh y).trans ?_
  rw [truthRow_read, truthLabels_read]
  exact (labels_at i (y 0) r l g gl).trans (congrArg (labels r l g gl) (emb_colsV i _ (k0_off3_inb i) (off3_base i) y).symm)
theorem maskRow_final (i : grid0.Coords) (r : S6x81920.Idx → F .f32) (l : S81920.Idx → BitVec 32) (g : S4x896.Idx → F .f32) (h : S81920.Idx → F .f32)
    (hh : ∀ y, (maskRow i).view.read (Elt F) h y = maskOut ((rpnRows i).view.read (Elt F) r) ((labelRow i).view.read (Elt F) l) ((truthRow i).view.read (Elt F) g) y) :
    ∀ z ∈ (maskRow i).view.set, h z = masks r l g z := by
  intro z hz
  obtain ⟨y, -, rfl⟩ := Finset.mem_map.mp hz
  refine (hh y).trans ?_
  rw [truthRow_read]
  exact (masks_at i (y 0) r l g).trans (congrArg (masks r l g) (emb_colsV i _ (k0_off3_inb i) (off3_base i) y).symm)

/-! ## The task -/

/-- What the task of tile `w` holds of the call's arrays: its columns of those laid out by column, and a share `q` of the two
    tables, which every task reads. -/
def tileRes (d : Dev nD) (q : PosShare TreeShare) (r : S6x81920.Idx → F .f32) (a : S7x81920.Idx → F .f32) (l : S81920.Idx → BitVec 32) (g : S4x896.Idx → F .f32) (gl : S4x128.Idx → BitVec 32)
    (o : S7x81920.Idx → F .f32) (ol : S81920.Idx → BitVec 32) (om : S81920.Idx → F .f32) (w : ℕ) : sProp 𝕄 :=
  iprop(((SparseCore.T d).loc main_v3 ↦[colsM 6 w]{fullShare} r) ∗ ((SparseCore.T d).loc main_v6 ↦[colsM 7 w]{fullShare} a) ∗ ((SparseCore.T d).loc main_v8 ↦[colsV w]{fullShare} l)
    ∗ ((SparseCore.T d).loc main_v10 ↦{q} g) ∗ ((SparseCore.T d).loc main_arg2 ↦{q} gl)
    ∗ ((SparseCore.T d).loc main_v11_0 ↦[colsM 7 w]{fullShare} o) ∗ ((SparseCore.T d).loc main_v11_1 ↦[colsV w]{fullShare} ol) ∗ ((SparseCore.T d).loc main_v11_2 ↦[colsV w]{fullShare} om))

/-- A program run from part of what is held, the rest kept aside. -/
theorem wp_around {d : Dev nD} {c : Fin τ.nSC} {j : Fin τ.nSub} {p : Prog (TpuEff nD τ sig (Elt F) Λ₀ (.scVector c j)) PUnit} {A R X : sProp 𝕄} {Q Q' : PUnit → sProp 𝕄}
    (hx : A ⊢ wp frame (wpE (defs₀ (F := F)) 𝒱₀ (V d c j) none) Set.univ p Q) (h1 : X ⊢ iprop(A ∗ R)) (h2 : ∀ a, iprop(Q a ∗ R) ⊢ Q' a) :
    X ⊢ wp frame (wpE (defs₀ (F := F)) 𝒱₀ (V d c j) none) Set.univ p Q' :=
  h1.trans ((BI.sep_mono hx (Entails.refl R)).trans ((wp_frame_r _ _ _).trans (wp_mono frame _ _ h2)))

/-- The task of a tile: from its columns and what the tile owns, it leaves the call's results in its columns. -/
theorem task (d : Dev nD) (i : grid0.Coords) (q : PosShare TreeShare) (r : S6x81920.Idx → F .f32) (a : S7x81920.Idx → F .f32) (l : S81920.Idx → BitVec 32) (g : S4x896.Idx → F .f32) (gl : S4x128.Idx → BitVec 32)
    (o : S7x81920.Idx → F .f32) (ol : S81920.Idx → BitVec 32) (om : S81920.Idx → F .f32) (hF : (K (F := F)).Facts) (O : CellTallies nD τ sig (HIx 1)) (W : Waits sig (HIx 1)) (hO : ∀ g, O g none = 0) :
    iprop(levAts (K (F := F)).L (K (F := F)).lev ∗ emp ∗ tileRes d q r a l g gl o ol om (wid i)
        ∗ scopedBufs (thr d i) ∗ scopedSems0 (thr d i) ∗ owes (thr d i) O W)
      ⊢ (wp frame (wpE (defs₀ (F := F)) 𝒱₀ (thr d i) none) Set.univ (cc0__sc_body (F := F) i (Memref.whole main_v3_scv) (Memref.isWhole_whole _) (Memref.whole main_v6_scv) (Memref.isWhole_whole _) (Memref.whole main_v8_scv) (Memref.isWhole_whole _) (Memref.whole main_v10_scv) (Memref.isWhole_whole _) (Memref.whole main_arg2_scv) (Memref.isWhole_whole _) (Memref.whole main_v11_0_scv) (Memref.isWhole_whole _) (Memref.whole main_v11_1_scv) (Memref.isWhole_whole _) (Memref.whole main_v11_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7)
          fun _ => iprop(tileRes d q r a l g gl (boxes r a l g) (labels r l g gl) (masks r l g) (wid i)
            ∗ scopedBufs (thr d i) ∗ scopedSems0 (thr d i) ∗ ∃ W', ⌜∀ p ∈ W', p ∈ W ∨ p.2 = none⌝ ∗ owes (thr d i) O W') : sProp 𝕄) := by
  rw [(K (F := F)).scopedBufs_V hF d, SparseCore.Cfg.scopedSems0_V (Val := Elt F) d, ownSems_tile, ownBufs_tile]
  have hx := tile_exec i (Memref.whole main_v3_scv) (Memref.isWhole_whole _) (Memref.whole main_v6_scv) (Memref.isWhole_whole _) (Memref.whole main_v8_scv) (Memref.isWhole_whole _) (Memref.whole main_v10_scv) (Memref.isWhole_whole _) (Memref.whole main_arg2_scv) (Memref.isWhole_whole _) (Memref.whole main_v11_0_scv) (Memref.isWhole_whole _) (Memref.whole main_v11_1_scv) (Memref.isWhole_whole _) (Memref.whole main_v11_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7 d q r a l g gl o ol om O W
  have e2 := rpnRows_set i
  have e3 := assignedRows_set i
  have e4 := labelRow_set i
  have e7 := boxRows_set i
  have e8 := newLabels_set i
  have e9 := maskRow_set i
  unfold tileRes
  refine wp_around hx (R := iprop((((SparseCore.T d).loc main_v10 ↦[Finset.univ \ (truthRow i).view.set]{q} g) ∗ ((SparseCore.T d).loc main_arg2 ↦[Finset.univ \ (truthLabels i).view.set]{q} gl))
      ∗ restBufs d ((i 0).castLE hcore0) ((i 1).castLE hsub0) ∗ restSems d ((i 0).castLE hcore0) ((i 1).castLE hsub0))) ?_ (fun _ => ?_)
  · iintro ⟨#Hlv, -, ⟨H2, H3, H4, H5, H6, H7, H8, H9⟩, ⟨HB, HrB⟩, ⟨HS, HrS⟩, HO⟩
    ihave Hmw := ((K (F := F)).mayWaits_none (thr := thr d i) hO) $$ Hlv
    ihave H5 := (pointsTo_split_subset (Finset.subset_univ (truthRow i).view.set)).1 $$ H5
    icases H5 with ⟨H5, H5r⟩
    ihave H6 := (pointsTo_split_subset (Finset.subset_univ (truthLabels i).view.set)).1 $$ H6
    icases H6 with ⟨H6, H6r⟩
    ihave H2 := (Entails.of_eq (congrArg (fun S => ((SparseCore.T d).loc main_v3 ↦[S]{fullShare} r : sProp 𝕄)) e2.symm)) $$ H2
    ihave H3 := (Entails.of_eq (congrArg (fun S => ((SparseCore.T d).loc main_v6 ↦[S]{fullShare} a : sProp 𝕄)) e3.symm)) $$ H3
    ihave H4 := (Entails.of_eq (congrArg (fun S => ((SparseCore.T d).loc main_v8 ↦[S]{fullShare} l : sProp 𝕄)) e4.symm)) $$ H4
    ihave H7 := (Entails.of_eq (congrArg (fun S => ((SparseCore.T d).loc main_v11_0 ↦[S]{fullShare} o : sProp 𝕄)) e7.symm)) $$ H7
    ihave H8 := (Entails.of_eq (congrArg (fun S => ((SparseCore.T d).loc main_v11_1 ↦[S]{fullShare} ol : sProp 𝕄)) e8.symm)) $$ H8
    ihave H9 := (Entails.of_eq (congrArg (fun S => ((SparseCore.T d).loc main_v11_2 ↦[S]{fullShare} om : sProp 𝕄)) e9.symm)) $$ H9
    isplitr [H5r H6r HrB HrS]
    · isplitr; · iexact Hmw
      isplitr [HB HS HO]
      · isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [HB]; · iexact HB
      isplitl [HS]; · iexact HS
      iexact HO
    · isplitl [H5r H6r]
      · isplitl [H5r]; · iexact H5r
        iexact H6r
      isplitl [HrB]; · iexact HrB
      iexact HrS
  · iintro ⟨⟨⟨H2, H3, H4, H5, H6, ⟨%o', %ho, H7⟩, ⟨%ol', %hol, H8⟩, ⟨%om', %hom, H9⟩⟩, HB, HS, HO⟩, ⟨H5r, H6r⟩, HrB, HrS⟩
    ihave H7 := (Entails.of_eq ((pointsTo_congr (boxRows_final i r a l g o' ho)).trans (congrArg (fun S => ((SparseCore.T d).loc main_v11_0 ↦[S]{fullShare} boxes r a l g : sProp 𝕄)) e7))) $$ H7
    ihave H8 := (Entails.of_eq ((pointsTo_congr (newLabels_final i r l g gl ol' hol)).trans (congrArg (fun S => ((SparseCore.T d).loc main_v11_1 ↦[S]{fullShare} labels r l g gl : sProp 𝕄)) e8))) $$ H8
    ihave H9 := (Entails.of_eq ((pointsTo_congr (maskRow_final i r l g om' hom)).trans (congrArg (fun S => ((SparseCore.T d).loc main_v11_2 ↦[S]{fullShare} masks r l g : sProp 𝕄)) e9))) $$ H9
    ihave H2 := (Entails.of_eq (congrArg (fun S => ((SparseCore.T d).loc main_v3 ↦[S]{fullShare} r : sProp 𝕄)) e2)) $$ H2
    ihave H3 := (Entails.of_eq (congrArg (fun S => ((SparseCore.T d).loc main_v6 ↦[S]{fullShare} a : sProp 𝕄)) e3)) $$ H3
    ihave H4 := (Entails.of_eq (congrArg (fun S => ((SparseCore.T d).loc main_v8 ↦[S]{fullShare} l : sProp 𝕄)) e4)) $$ H4
    isplitl [H2 H3 H4 H5 H5r H6 H6r H7 H8 H9]
    · isplitl [H2]; · iexact H2
      isplitl [H3]; · iexact H3
      isplitl [H4]; · iexact H4
      isplitl [H5 H5r]
      · iapply (pointsTo_split_subset (ℓ := (SparseCore.T d).loc main_v10) (f := g) (q := q) (Finset.subset_univ (truthRow i).view.set)).2
        isplitl [H5]; · iexact H5
        iexact H5r
      isplitl [H6 H6r]
      · iapply (pointsTo_split_subset (ℓ := (SparseCore.T d).loc main_arg2) (f := gl) (q := q) (Finset.subset_univ (truthLabels i).view.set)).2
        isplitl [H6]; · iexact H6
        iexact H6r
      isplitl [H7]; · iexact H7
      isplitl [H8]; · iexact H8
      iexact H9
    isplitl [HB HrB]
    · isplitl [HB]; · iexact HB
      iexact HrB
    isplitl [HS HrS]
    · isplitl [HS]; · iexact HS
      iexact HrS
    iexact HO

end Cert.Proof.Ideal

end
-- ==== Proof.Ideal.Host.lean ====
module

public import proofs.«01_k».proof.Proof.Ideal.Task
public import Idealize.ShloMosaic.Lib.Pipeline.Frame
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

/-! ## The host's operations before and after the call -/

/-- The operations before the call: the boxes and the assignments padded to 20480 columns a batch and laid out by row, the
    tables of ground truths transposed. -/
def opsPre : List (HloOp τ sig (Elt F)) :=
  [StableHlo.unary main_arg0 main_v0 ((extractStridedSlice S4x20000x6 ![0, 0, 0] · slices_S4x20000x7_S4x20000x6_0_0_0) : (⟨S4x20000x7, .f32⟩ : BufTy).Contents (Elt F) → (⟨S4x20000x6, .f32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_v0 : StableHlo.TRef sig ⟨S4x20000x6, .f32⟩) main_call0.v0 main_call0.v1 (fun x v => pad S4x20480x6 ![0, 0, 0] ![0, 480, 0] ![0, 0, 0] x v pads_S4x20000x6_S4x20480x6_000_04800_000 h_S_),
    StableHlo.unary main_v1 main_v2 ((transpose S6x4x20480 [2, 0, 1] · transposes_S4x20480x6_S6x4x20480_2_0_1) : (⟨S4x20480x6, .f32⟩ : BufTy).Contents (Elt F) → (⟨S6x4x20480, .f32⟩ : BufTy).Contents (Elt F)),
    StableHlo.reshape main_v2 main_v3 (rfl : (.f32 : EltTy) = .f32) shapeCasts_S6x4x20480_S6x81920,
    StableHlo.nullary main_c_0 (constantI S_ 32 0#32),
    StableHlo.TRef.unary (.of main_c_0 : StableHlo.TRef sig ⟨S_, .i32⟩) main_call1.v0 (sitofp .f32),
    StableHlo.TRef.binary (.of main_arg3 : StableHlo.TRef sig ⟨S4x20000x7, .f32⟩) main_call1.v0 main_call1.v1 (fun x v => pad S4x20480x7 ![0, 0, 0] ![0, 480, 0] ![0, 0, 0] x v pads_S4x20000x7_S4x20480x7_000_04800_000 h_S_),
    StableHlo.unary main_v4 main_v5 ((transpose S7x4x20480 [2, 0, 1] · transposes_S4x20480x7_S7x4x20480_2_0_1) : (⟨S4x20480x7, .f32⟩ : BufTy).Contents (Elt F) → (⟨S7x4x20480, .f32⟩ : BufTy).Contents (Elt F)),
    StableHlo.reshape main_v5 main_v6 (rfl : (.f32 : EltTy) = .f32) shapeCasts_S7x4x20480_S7x81920,
    StableHlo.nullary main_c_1 (constantI S_ 32 4294967295#32),
    StableHlo.TRef.unary (.of main_c_1 : StableHlo.TRef sig ⟨S_, .i32⟩) main_call2.v0 id,
    StableHlo.TRef.binary (.of main_arg4 : StableHlo.TRef sig ⟨S4x20000, .i32⟩) main_call2.v0 main_call2.v1 (fun x v => pad S4x20480 ![0, 0] ![0, 480] ![0, 0] x v pads_S4x20000_S4x20480_000_04800 h_S_),
    StableHlo.reshape main_v7 main_v8 (rfl : (.i32 : EltTy) = .i32) shapeCasts_S4x20480_S81920,
    StableHlo.unary main_arg1 main_v9 ((transpose S4x7x128 [0, 2, 1] · transposes_S4x128x7_S4x7x128_0_2_1) : (⟨S4x128x7, .f32⟩ : BufTy).Contents (Elt F) → (⟨S4x7x128, .f32⟩ : BufTy).Contents (Elt F)),
    StableHlo.reshape main_v9 main_v10 (rfl : (.f32 : EltTy) = .f32) shapeCasts_S4x7x128_S4x896]

/-- The operations after it: each result cut back to 20000 columns a batch. -/
def opsPost : List (HloOp τ sig (Elt F)) :=
  [StableHlo.reshape main_v11_0 main_v12 (rfl : (.f32 : EltTy) = .f32) shapeCasts_S7x81920_S7x4x20480,
    StableHlo.unary main_v12 main_v13 ((extractStridedSlice S7x4x20000 ![0, 0, 0] · slices_S7x4x20480_S7x4x20000_0_0_0) : (⟨S7x4x20480, .f32⟩ : BufTy).Contents (Elt F) → (⟨S7x4x20000, .f32⟩ : BufTy).Contents (Elt F)),
    StableHlo.unary main_v13 main_v14 ((transpose S4x20000x7 [1, 2, 0] · transposes_S7x4x20000_S4x20000x7_1_2_0) : (⟨S7x4x20000, .f32⟩ : BufTy).Contents (Elt F) → (⟨S4x20000x7, .f32⟩ : BufTy).Contents (Elt F)),
    StableHlo.reshape main_v11_1 main_v15 (rfl : (.i32 : EltTy) = .i32) shapeCasts_S81920_S4x20480,
    StableHlo.unary main_v15 main_v16 ((extractStridedSlice S4x20000 ![0, 0] · slices_S4x20480_S4x20000_0_0) : (⟨S4x20480, .i32⟩ : BufTy).Contents (Elt F) → (⟨S4x20000, .i32⟩ : BufTy).Contents (Elt F)),
    StableHlo.reshape main_v11_2 main_v17 (rfl : (.f32 : EltTy) = .f32) shapeCasts_S81920_S4x20480,
    StableHlo.unary main_v17 main_v18 ((extractStridedSlice S4x20000 ![0, 0] · slices_S4x20480_S4x20000_0_0) : (⟨S4x20480, .f32⟩ : BufTy).Contents (Elt F) → (⟨S4x20000, .f32⟩ : BufTy).Contents (Elt F))]

theorem main_eq (d : Dev nD) : main (F := F) d = StableHlo.seq opsPre >>= fun _ => sc.run d 0 >>= fun _ => StableHlo.seq opsPost := by
  rw [StableHlo.seq_bind_seqK]
  rfl

theorem opsPre_sub : (opsPre (F := F)).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.reshape_bufs_sub .., StableHlo.unary_bufs_sub .., StableHlo.reshape_bufs_sub ..⟩
theorem opsPost_sub : (opsPost (F := F)).Forall fun op => op.bufs ⊆ StableHlo.tcRefs τ sig :=
  ⟨StableHlo.reshape_bufs_sub .., StableHlo.unary_bufs_sub .., StableHlo.unary_bufs_sub .., StableHlo.reshape_bufs_sub .., StableHlo.unary_bufs_sub .., StableHlo.reshape_bufs_sub .., StableHlo.unary_bufs_sub ..⟩
theorem opsPre_bufs : ∀ op ∈ opsPre (F := F), op.bufs ⊆ Pipeline.ucRefs τ sig :=
  fun op h => Pipeline.sub_ucRefs op (List.forall_iff_forall_mem.mp opsPre_sub op h)
theorem opsPost_bufs : ∀ op ∈ opsPost (F := F), op.bufs ⊆ Pipeline.ucRefs τ sig :=
  fun op h => Pipeline.sub_ucRefs op (List.forall_iff_forall_mem.mp opsPost_sub op h)
theorem opsPre_fresh : ∀ op ∈ opsPre (F := F), op.fresh = ∅ :=
  List.forall_iff_forall_mem.mp (StableHlo.forall_fresh_of_map rfl)
theorem opsPost_fresh : ∀ op ∈ opsPost (F := F), op.fresh = ∅ :=
  List.forall_iff_forall_mem.mp (StableHlo.forall_fresh_of_map rfl)

end Cert.Proof.Ideal

end
-- ==== Proof.Ideal.Arrays.lean ====
module

public import proofs.«01_k».proof.Proof.Ideal.Host
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

/-! ## What the TensorCore's buffers hold, stage by stage -/

section

variable (m : (ℓ : Loc nD τ sig) → Buf (Elt F) ℓ) (d : Dev nD)

/-- A buffer of the TensorCore's, as the valuations name it. -/
abbrev at' (b : Ref sig .tc) : DevRef τ sig := Proc.devRef .tc b

/-- At the start. -/
def V0 : Valuation τ sig (Elt F) := fun b => m (d, b)

/-- When the call begins. -/
def V1 : Valuation τ sig (Elt F) := StableHlo.after opsPre (V0 m d)

/-- The three results of the call, from the arrays it reads. -/
def boxesOf : S7x81920.Idx → F .f32 := boxes (V1 m d (at' main_v3)) (V1 m d (at' main_v6)) (V1 m d (at' main_v8)) (V1 m d (at' main_v10))
def labelsOf : S81920.Idx → BitVec 32 := labels (V1 m d (at' main_v3)) (V1 m d (at' main_v8)) (V1 m d (at' main_v10)) (V1 m d (at' main_arg2))
def masksOf : S81920.Idx → F .f32 := masks (V1 m d (at' main_v3)) (V1 m d (at' main_v8)) (V1 m d (at' main_v10))

/-- When the call has returned. -/
def V2 : Valuation τ sig (Elt F) :=
  Function.update (Function.update (Function.update (V1 m d) (at' main_v11_0) (boxesOf m d)) (at' main_v11_1) (labelsOf m d)) (at' main_v11_2) (masksOf m d)

/-- At the end. -/
def V3 : Valuation τ sig (Elt F) := StableHlo.after opsPost (V2 m d)

theorem V2_boxes : V2 m d (at' main_v11_0) = boxesOf m d := by
  unfold V2
  rw [Function.update_of_ne (show at' main_v11_0 ≠ at' main_v11_2 by decide), Function.update_of_ne (show at' main_v11_0 ≠ at' main_v11_1 by decide), Function.update_self]

theorem V2_labels : V2 m d (at' main_v11_1) = labelsOf m d := by
  unfold V2
  rw [Function.update_of_ne (show at' main_v11_1 ≠ at' main_v11_2 by decide), Function.update_self]

theorem V2_masks : V2 m d (at' main_v11_2) = masksOf m d := by
  unfold V2
  rw [Function.update_self]

/-- The call changes no buffer but its results'. -/
theorem V2_other (b : DevRef τ sig) (h : b ≠ at' main_v11_0 ∧ b ≠ at' main_v11_1 ∧ b ≠ at' main_v11_2) : V2 m d b = V1 m d b := by
  unfold V2
  rw [Function.update_of_ne h.2.2, Function.update_of_ne h.2.1, Function.update_of_ne h.1]

/-- The buffers the host's operations write. -/
def writesPre : List (Ref sig .tc) :=
  [main_v0, main_c, main_call0_v0, main_v1, main_v2, main_v3, main_c_0, main_call1_v0, main_v4, main_v5, main_v6, main_c_1, main_call2_v0, main_v7, main_v8, main_v9, main_v10]
def writesPost : List (Ref sig .tc) := [main_v12, main_v13, main_v14, main_v15, main_v16, main_v17, main_v18]

theorem pre_keeps (V : Valuation τ sig (Elt F)) (b : Ref sig .tc) (h : b ∉ writesPre) : StableHlo.after opsPre V (at' b) = V (at' b) :=
  StableHlo.after_of_writes_sub opsPre V (StableHlo.forall_writes_sub_of_map (W := writesPre) rfl) h

theorem post_keeps (V : Valuation τ sig (Elt F)) (b : Ref sig .tc) (h : b ∉ writesPost) : StableHlo.after opsPost V (at' b) = V (at' b) :=
  StableHlo.after_of_writes_sub opsPost V (StableHlo.forall_writes_sub_of_map (W := writesPost) rfl) h

/-- A buffer that nothing writes ends as it began. -/
theorem V3_keeps (b : Ref sig .tc) (h : b ∉ writesPre ∧ b ∉ writesPost ∧ at' b ≠ at' main_v11_0 ∧ at' b ≠ at' main_v11_1 ∧ at' b ≠ at' main_v11_2) :
    V3 m d (at' b) = m ((SparseCore.T d).loc b) := by
  unfold V3
  rw [post_keeps _ b h.2.1, V2_other m d _ h.2.2, V1, pre_keeps _ b h.1]
  rfl

end

end Cert.Proof.Ideal

end
-- ==== Proof.Ideal.Deal.lean ====
module

public import proofs.«01_k».proof.Proof.Ideal.Task
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

/-! ## The call's arrays dealt among the tiles -/

theorem colsM_disjoint (r : ℕ) : ∀ s ∈ (Finset.univ : Finset (Fin 32)), ∀ t ∈ (Finset.univ : Finset (Fin 32)), s ≠ t → Disjoint (colsM r s.val) (colsM r t.val) := by
  intro s _ t _ hst
  refine Finset.disjoint_left.mpr fun y hs ht => hst (Fin.ext ?_)
  rw [← (Finset.mem_filter.mp hs).2, ← (Finset.mem_filter.mp ht).2]

theorem colsM_cover (r : ℕ) : ((Finset.univ : Finset (Fin 32)).biUnion fun w => colsM r w.val) = Finset.univ := by
  refine Finset.eq_univ_of_forall fun y => ?_
  have hy : (y (1 : Fin 2)).val < 81920 := (y (1 : Fin 2)).isLt
  exact Finset.mem_biUnion.mpr ⟨⟨(y (1 : Fin 2)).val / 2560, by omega⟩, Finset.mem_univ _, Finset.mem_filter.mpr ⟨Finset.mem_univ _, rfl⟩⟩

theorem colsV_disjoint : ∀ s ∈ (Finset.univ : Finset (Fin 32)), ∀ t ∈ (Finset.univ : Finset (Fin 32)), s ≠ t → Disjoint (colsV s.val) (colsV t.val) := by
  intro s _ t _ hst
  refine Finset.disjoint_left.mpr fun y hs ht => hst (Fin.ext ?_)
  rw [← (Finset.mem_filter.mp hs).2, ← (Finset.mem_filter.mp ht).2]

theorem colsV_cover : ((Finset.univ : Finset (Fin 32)).biUnion fun w => colsV w.val) = Finset.univ := by
  refine Finset.eq_univ_of_forall fun y => ?_
  have hy : (y (0 : Fin 1)).val < 81920 := (y (0 : Fin 1)).isLt
  exact Finset.mem_biUnion.mpr ⟨⟨(y (0 : Fin 1)).val / 2560, by omega⟩, Finset.mem_univ _, Finset.mem_filter.mpr ⟨Finset.mem_univ _, rfl⟩⟩

/-- A buffer held whole is held by parts, over any family of parts that are apart and cover it. -/
theorem whole_parts (ℓ : Loc nD τ sig) (f : Buf (Elt F) ℓ) (k : Fin 32 → Finset (Idx ℓ))
    (hd : ∀ s ∈ (Finset.univ : Finset (Fin 32)), ∀ t ∈ (Finset.univ : Finset (Fin 32)), s ≠ t → Disjoint (k s) (k t)) (hc : (Finset.univ : Finset (Fin 32)).biUnion k = Finset.univ) :
    (bigSep Finset.univ fun w : Fin 32 => (ℓ ↦[k w]{fullShare} f : sProp 𝕄)) = (ℓ ↦{fullShare} f) := by
  rw [← pointsTo_biUnion Finset.univ k hd, hc]

/-- The share of the tables that tile `w` gets. -/
def shareT (w : Fin 32) : PosShare TreeShare := Transfers.dealOf fullShare Finset.univ w

theorem whole_shares (ℓ : Loc nD τ sig) (f : Buf (Elt F) ℓ) :
    (bigSep Finset.univ fun w : Fin 32 => (ℓ ↦{shareT w} f : sProp 𝕄)) = (ℓ ↦{fullShare} f) :=
  (Transfers.pointsTo_deal Finset.univ ⟨0, Finset.mem_univ _⟩ fullShare).symm

/-- All the tiles' parts of the call's arrays are those arrays. -/
theorem tiles_whole (d : Dev nD) (r : S6x81920.Idx → F .f32) (a : S7x81920.Idx → F .f32) (l : S81920.Idx → BitVec 32) (g : S4x896.Idx → F .f32) (gl : S4x128.Idx → BitVec 32)
    (o : S7x81920.Idx → F .f32) (ol : S81920.Idx → BitVec 32) (om : S81920.Idx → F .f32) :
    (bigSep Finset.univ fun w : Fin 32 => (tileRes d (shareT w) r a l g gl o ol om w.val : sProp 𝕄))
      = iprop(((SparseCore.T d).loc main_v3 ↦{fullShare} r) ∗ ((SparseCore.T d).loc main_v6 ↦{fullShare} a) ∗ ((SparseCore.T d).loc main_v8 ↦{fullShare} l)
        ∗ ((SparseCore.T d).loc main_v10 ↦{fullShare} g) ∗ ((SparseCore.T d).loc main_arg2 ↦{fullShare} gl)
        ∗ ((SparseCore.T d).loc main_v11_0 ↦{fullShare} o) ∗ ((SparseCore.T d).loc main_v11_1 ↦{fullShare} ol) ∗ ((SparseCore.T d).loc main_v11_2 ↦{fullShare} om)) := by
  unfold tileRes
  rw [bigSep_sep', bigSep_sep', bigSep_sep', bigSep_sep', bigSep_sep', bigSep_sep', bigSep_sep', whole_shares, whole_shares,
    whole_parts ((SparseCore.T d).loc main_v3) r _ (colsM_disjoint 6) (colsM_cover 6),
    whole_parts ((SparseCore.T d).loc main_v6) a _ (colsM_disjoint 7) (colsM_cover 7),
    whole_parts ((SparseCore.T d).loc main_v8) l _ colsV_disjoint colsV_cover,
    whole_parts ((SparseCore.T d).loc main_v11_0) o _ (colsM_disjoint 7) (colsM_cover 7),
    whole_parts ((SparseCore.T d).loc main_v11_1) ol _ colsV_disjoint colsV_cover,
    whole_parts ((SparseCore.T d).loc main_v11_2) om _ colsV_disjoint colsV_cover]

/-- The number of the tile at subcore `s` of core `c`. -/
def tileNo (c s : ℕ) : Fin 32 := ⟨c % 2 + 2 * (s % 16), by omega⟩

/-- Core by core and subcore by subcore, every tile is met once. -/
theorem by_core (Φ : Fin 32 → sProp 𝕄) :
    (bigSep Finset.univ fun c : Fin 2 => bigSep Finset.univ fun s : Fin 16 => Φ (tileNo c.val s.val)) = bigSep Finset.univ Φ := by
  rw [← bigSep_univ_prod (fun p : Fin 2 × Fin 16 => Φ (tileNo p.1.val p.2.val)), bigSep_univ_equiv ((Equiv.prodComm (Fin 2) (Fin 16)).trans finProdFinEquiv) Φ]
  refine bigSep_congr fun p _ => congrArg Φ (Fin.ext ?_)
  show p.1.val % 2 + 2 * (p.2.val % 16) = p.1.val + 2 * p.2.val
  omega

/-! ## The arrays among all that the TensorCore holds -/

/-- The eight arrays of the call. -/
def callRefs : Finset (DevRef τ sig) :=
  {Proc.devRef .tc (main_v3 : Ref sig .tc), Proc.devRef .tc (main_v6 : Ref sig .tc), Proc.devRef .tc (main_v8 : Ref sig .tc), Proc.devRef .tc (main_v10 : Ref sig .tc),
    Proc.devRef .tc (main_arg2 : Ref sig .tc), Proc.devRef .tc (main_v11_0 : Ref sig .tc), Proc.devRef .tc (main_v11_1 : Ref sig .tc), Proc.devRef .tc (main_v11_2 : Ref sig .tc)}

theorem bigSep_callRefs (Φ : DevRef τ sig → sProp 𝕄) :
    bigSep callRefs Φ = iprop(Φ (Proc.devRef .tc main_v3) ∗ Φ (Proc.devRef .tc main_v6) ∗ Φ (Proc.devRef .tc main_v8) ∗ Φ (Proc.devRef .tc main_v10)
      ∗ Φ (Proc.devRef .tc main_arg2) ∗ Φ (Proc.devRef .tc main_v11_0) ∗ Φ (Proc.devRef .tc main_v11_1) ∗ Φ (Proc.devRef .tc main_v11_2)) := by
  unfold callRefs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- Those arrays held at a valuation are all the tiles' parts at its arrays. -/
theorem held_tiles (d : Dev nD) (V : Valuation τ sig (Elt F)) :
    (StableHlo.held (SparseCore.T d) callRefs V : sProp 𝕄)
      = bigSep Finset.univ fun w : Fin 32 => tileRes d (shareT w) (V (Proc.devRef .tc main_v3)) (V (Proc.devRef .tc main_v6)) (V (Proc.devRef .tc main_v8)) (V (Proc.devRef .tc main_v10))
          (V (Proc.devRef .tc main_arg2)) (V (Proc.devRef .tc main_v11_0)) (V (Proc.devRef .tc main_v11_1)) (V (Proc.devRef .tc main_v11_2)) w.val := by
  rw [tiles_whole]
  unfold StableHlo.held
  rw [bigSep_callRefs]

/-- What is held agrees with the memory. -/
theorem held_agree (d : Dev nD) (S : Finset (DevRef τ sig)) (V : Valuation τ sig (Elt F)) (s : Phys nD τ sig (Elt F)) :
    iprop(StableHlo.held (SparseCore.T d) S V ∗ SI s) ⊢ (⌜∀ b ∈ S, s.mem.mem (d, b) = V b⌝ : sProp 𝕄) := by
  refine (Laws.forall_intro fun b => ?_).trans (Laws.pure_forall (φ := fun b => b ∈ S → s.mem.mem (d, b) = V b)).2
  by_cases hb : b ∈ S
  · unfold StableHlo.held
    rw [SparseCore.bigSep_erase' hb]
    iintro ⟨⟨H, -⟩, HSI⟩
    ihave Hv := (SI_pointsTo_agree (st := s) (ℓ := (d, b)) (I := Finset.univ) (q := fullShare) (f := V b)) $$ [HSI H]
    · isplitl [HSI]; · iexact HSI
      iexact H
    icases Hv with %hv
    ipureintro
    exact fun _ => funext fun i => hv i (Finset.mem_univ i)
  · iintro -
    ipureintro
    exact fun h => absurd h hb

end Cert.Proof.Ideal

end
-- ==== Proof.Ideal.Launch.lean ====
module

public import proofs.«01_k».proof.Proof.Ideal.Arrays
public import proofs.«01_k».proof.Proof.Ideal.Deal
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

/-! ## What the call hands over and what it gets back -/

variable (m : (ℓ : Loc nD τ sig) → Buf (Elt F) ℓ) (ρ : Dev nD → PrngReg)

/-- What tile `w` is handed: its part of the arrays as they stand when the call begins. -/
def given (d : Dev nD) (w : Fin 32) : sProp 𝕄 :=
  tileRes d (shareT w) (V1 m d (at' main_v3)) (V1 m d (at' main_v6)) (V1 m d (at' main_v8)) (V1 m d (at' main_v10)) (V1 m d (at' main_arg2))
    (V1 m d (at' main_v11_0)) (V1 m d (at' main_v11_1)) (V1 m d (at' main_v11_2)) w.val

/-- What it hands back: the same, the results in place. -/
def returned (d : Dev nD) (w : Fin 32) : sProp 𝕄 :=
  tileRes d (shareT w) (V1 m d (at' main_v3)) (V1 m d (at' main_v6)) (V1 m d (at' main_v8)) (V1 m d (at' main_v10)) (V1 m d (at' main_arg2))
    (boxesOf m d) (labelsOf m d) (masksOf m d) w.val

instance given_storable (d : Dev nD) (w : Fin 32) : BI.Storable (upEmb : UEmb _ 𝕄) (given m d w) := by
  unfold given tileRes; infer_instance
instance returned_storable (d : Dev nD) (w : Fin 32) : BI.Storable (upEmb : UEmb _ 𝕄) (returned m d w) := by
  unfold returned tileRes; infer_instance

/-- The payloads of the call's signals. A core is handed what its sixteen tiles are. -/
def P : (K (F := F)).Pay (nD := nD) (Val := Elt F) (Name := ℕ) (U := UU) where
  st := fun _ d c => bigSep Finset.univ fun s : Fin 16 => given m d (tileNo c.val s.val)
  dn := fun _ d c => bigSep Finset.univ fun s : Fin 16 => returned m d (tileNo c.val s.val)
  go := fun _ d c s => given m d (tileNo c.val s.val)
  td := fun _ d c s => returned m d (tileNo c.val s.val)
  x := fun _ _ => iprop(emp)

instance P_storable : (P (F := F) m).IsStorable where
  st _ d c := by unfold P; infer_instance
  dn _ d c := by unfold P; infer_instance
  go _ d c s := by unfold P; infer_instance
  td _ d c s := by unfold P; infer_instance

theorem st_all (d : Dev nD) : (bigSep Finset.univ fun c : Fin ((K (F := F)).nCore 0) => (P m).st 0 d c) = bigSep Finset.univ (given m d) :=
  by_core (given m d)

theorem dn_all (d : Dev nD) : (bigSep Finset.univ fun c : Fin ((K (F := F)).nCore 0) => (P m).dn 0 d c) = bigSep Finset.univ (returned m d) :=
  by_core (returned m d)

/-- A core deals what it is handed among its tiles, and collects it. -/
theorem vecSplit : (K (F := F)).VecSplit (P m) 0 := SparseCore.Cfg.VecSplit.of_plain fun d c => by
  have hg : (bigSep Finset.univ fun s : Fin ((K (F := F)).nSub 0) => (P m).go 0 d c s) = (P m).st 0 d c := rfl
  have ht : (bigSep Finset.univ fun s : Fin ((K (F := F)).nSub 0) => (P m).td 0 d c s) = (P m).dn 0 d c := rfl
  rw [hg, ht]
  iintro H
  imodintro
  isplitl [H]; · iexact H
  iintro H
  iexact H

/-! ## The tiles' obligation -/

/-- The grid position of subcore `s` of core `c`. -/
def gridPos (c : Fin (grid0.bound 0)) (s : Fin (grid0.bound 1)) : grid0.Coords :=
  fun | 0 => c | 1 => s | ⟨_ + 2, h⟩ => absurd h (Nat.not_lt.2 (Nat.le_add_left _ _))

theorem table_tile (c : Fin τ.nSC) (s : Fin τ.nSub) :
    defs₀ (F := F) (.scVector c s) 0 ()
      = SparseCore.onTile hcore0 hsub0 (fun c s => cc0__sc_body (gridPos c s) (Memref.whole main_v3_scv) (Memref.isWhole_whole _) (Memref.whole main_v6_scv) (Memref.isWhole_whole _) (Memref.whole main_v8_scv) (Memref.isWhole_whole _) (Memref.whole main_v10_scv) (Memref.isWhole_whole _) (Memref.whole main_arg2_scv) (Memref.isWhole_whole _) (Memref.whole main_v11_0_scv) (Memref.isWhole_whole _) (Memref.whole main_v11_1_scv) (Memref.isWhole_whole _) (Memref.whole main_v11_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7) ⟨⟩ c s := rfl

/-- A wait recorded at no index counts as one of the call's. -/
theorem weaken_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right .inl
  iexact HO

theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [table_tile]; simp only [SparseCore.onTile, hc, and_self, ↓reduceDIte]
  have hw : wid (gridPos ⟨_, hc.1⟩ ⟨_, hc.2⟩) = (tileNo c.val s.val).val := by
    have h0 : c.val < 2 := c.isLt
    have h1 : s.val < 16 := s.isLt
    show 2 * s.val + c.val = c.val % 2 + 2 * (s.val % 16)
    omega
  have ht := task d (gridPos ⟨_, hc.1⟩ ⟨_, hc.2⟩) (shareT (tileNo c.val s.val)) (V1 m d (at' main_v3)) (V1 m d (at' main_v6)) (V1 m d (at' main_v8)) (V1 m d (at' main_v10)) (V1 m d (at' main_arg2))
    (V1 m d (at' main_v11_0)) (V1 m d (at' main_v11_1)) (V1 m d (at' main_v11_2)) facts O W hO
  rw [hw] at ht
  exact ht.trans (wp_mono frame _ _ fun _ => weaken_waits)

end Cert.Proof.Ideal

end
-- ==== Proof.Ideal.Run.lean ====
module

public import proofs.«01_k».proof.Proof.Ideal.Launch
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

open Idealize.ShloMosaic.Rounds

/-! ## The launch's ghost state -/

variable (m : (ℓ : Loc nD τ sig) → Buf (Elt F) ℓ) (ρ : Dev nD → PrngReg)

/-- The handshakes' rounds, and nothing of the kernel's own. -/
def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  have hx : (bigSep Finset.univ fun t : Thread nD τ => bigSep Finset.univ fun q : Fin 1 => (P m).x q t) = iprop(emp) := by
    show (bigSep Finset.univ fun _ : Thread nD τ => bigSep Finset.univ fun _ : Fin 1 => (iprop(emp) : sProp 𝕄)) = iprop(emp)
    rw [bigSep_congr fun _ _ => bigSep_nothing _, bigSep_nothing]
  rw [hx, bigSep_nothing]
  unfold u₀
  iintro Hu
  ihave Hu := (ownU_pair _ _) $$ Hu
  icases Hu with ⟨Hu, -⟩
  imodintro
  isplitl [Hu]; · iexact Hu
  isplitl <;> iempintro

/-! ## The TensorCore's program -/

theorem callRefs_sub : callRefs ⊆ Pipeline.ucRefs τ sig := by decide

/-- What is held when the call begins, the call's arrays dealt to the tiles. -/
theorem held_before (d : Dev nD) :
    (StableHlo.held (SparseCore.T d) (Pipeline.ucRefs τ sig) (V1 m d) : sProp 𝕄)
      = iprop((bigSep Finset.univ (given m d)) ∗ StableHlo.held (SparseCore.T d) (Pipeline.ucRefs τ sig \ callRefs) (V1 m d)) := by
  rw [StableHlo.held_sub_split (SparseCore.T d) callRefs_sub, held_tiles]
  rfl

/-- What is held when it has returned. -/
theorem held_after (d : Dev nD) :
    (StableHlo.held (SparseCore.T d) (Pipeline.ucRefs τ sig) (V2 m d) : sProp 𝕄)
      = iprop((bigSep Finset.univ (returned m d)) ∗ StableHlo.held (SparseCore.T d) (Pipeline.ucRefs τ sig \ callRefs) (V1 m d)) := by
  rw [StableHlo.held_sub_split (SparseCore.T d) callRefs_sub, held_tiles, V2_boxes, V2_labels, V2_masks,
    V2_other m d (at' main_v3) (by decide), V2_other m d (at' main_v6) (by decide), V2_other m d (at' main_v8) (by decide),
    V2_other m d (at' main_v10) (by decide), V2_other m d (at' main_arg2) (by decide)]
  refine congrArg (fun R => iprop((bigSep Finset.univ (returned m d)) ∗ R)) (StableHlo.held_congr (SparseCore.T d) fun b hb => V2_other m d b ?_)
  have hn := (Finset.mem_sdiff.mp hb).2
  refine ⟨fun e => hn ?_, fun e => hn ?_, fun e => hn ?_⟩ <;> rw [e] <;> decide

/-- What the program leaves: every buffer of the TensorCore's at its last contents. -/
def FIN (d : Dev nD) : sProp 𝕄 := StableHlo.held (SparseCore.T d) (Pipeline.ucRefs τ sig) (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (V0 m d) from
    Pipeline.unscopedBufs_held d (V0 m d), main_eq]
  iintro ⟨#Hctx, Hst, ⟨Hb, Hh, Hts, -⟩, -⟩
  iapply (StableHlo.wp_seq 𝒱 none Set.univ d (Pipeline.ucRefs τ sig) _ opsPre opsPre_bufs opsPre_fresh (V0 m d)) $$ [Hb Hh]
  · isplitl [Hb]; · iexact Hb
    iexact Hh
  iintro ⟨Hb, Hh⟩
  ihave Hh := (show (StableHlo.held (d.tc : Thread nD τ) (Pipeline.ucRefs τ sig) (StableHlo.after opsPre (V0 m d)) : sProp 𝕄) ⊢ _ from Entails.of_eq (held_before m d)) $$ Hh
  icases Hh with ⟨Hg, Hrest⟩
  rw [wp_bind]
  iapply ((K (F := F)).wp_run (D (F := F)) 𝒱 (EH := EH) (P := P m) κ d 0) $$ [Hst Hg Hb Hrest Hts]
  isplitr; · iexact Hctx
  isplitl [Hst]; · iexact Hst
  isplitl [Hg]
  · rw [st_all]; iexact Hg
  iintro ⟨Hst, Hd⟩
  ihave Hd := (Entails.of_eq (dn_all m d)) $$ Hd
  ihave Hh := (Entails.of_eq (held_after m d).symm) $$ [Hd Hrest]
  · isplitl [Hd]; · iexact Hd
    iexact Hrest
  rw [show (StableHlo.seq opsPost : Prog _ _) = (StableHlo.seq opsPost >>= fun _ => pure ⟨⟩) from rfl]
  iapply (StableHlo.wp_seq 𝒱 none Set.univ d (Pipeline.ucRefs τ sig) _ opsPost opsPost_bufs opsPost_fresh (V2 m d)) $$ [Hb Hh]
  · isplitl [Hb]; · iexact Hb
    iexact Hh
  iintro ⟨Hb, Hh⟩
  rw [wp_pure]
  imodintro
  isplitl [Hst]; · iexact Hst
  isplitl [Hh]; · unfold FIN; iexact Hh
  isplitl [Hb]; · iexact Hb
  iexact Hts

/-! ## The run -/

/-- The memory holds every buffer of the TensorCore's at its last contents. -/
def Ends (d : Dev nD) (s : Phys nD τ sig (Elt F)) : Prop := ∀ b ∈ Pipeline.ucRefs τ sig, s.mem.mem (d, b) = V3 m d b

theorem hfin (d : Dev nD) (s : Phys nD τ sig (Elt F)) : iprop(FIN m d ∗ SI s) ⊢ (⌜Ends m d s⌝ : sProp 𝕄) := held_agree d _ _ s

/-- Every execution ends, with every buffer of the TensorCore's at its last contents and every semaphore at zero. -/
theorem run [∀ e, Nonempty (Elt F e)] :
    θ_run (Cert.KernelIdeal.defs (F := F)) (Cert.KernelIdeal.threads (F := F)) ⟨m, fun _ => 0, ρ⟩
      (fun r => (∀ d, ∀ b ∈ Pipeline.ucRefs τ sig, r.2.mem (d, b) = V3 m d b) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => vecSplit m)
    m ρ main (fun _ => iprop(emp)) (FIN m) (u₀ (F := F)) (sep_elim_left.trans (hu₀ m)) (hmain m ρ) (Ends m) (hfin m) _ (fun _ h hz => ⟨h, hz⟩)

/-- The buffers the claims name are among those. -/
theorem named (b : Ref sig .tc) (h : b ∈ [main_arg0, main_arg1, main_arg2, main_arg3, main_arg4, main_arg5, main_v14, main_v16, main_v18]) : at' b ∈ Pipeline.ucRefs τ sig := by
  revert b; decide

/-- The arguments keep their contents. -/
theorem args_kept (d : Dev nD) (b : Ref sig .tc) (h : b ∈ [main_arg0, main_arg1, main_arg2, main_arg3, main_arg4, main_arg5]) : V3 m d (at' b) = m ((SparseCore.T d).loc b) := by
  refine V3_keeps m d b ?_
  revert b; decide

end Cert.Proof.Ideal

end
-- ==== Proof.Ideal.Frame.lean ====
module

public import proofs.«01_k».proof.Proof.Ideal.Run
public import proofs.«01_k».proof.Proof.Values

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MM F

variable (m : (ℓ : Loc nD τ sig) → Buf (Elt F) ℓ) (ρ : Dev nD → PrngReg)

/-- Every execution ends, the arguments unchanged and every semaphore at zero. -/
theorem frame_run [∀ e, Nonempty (Elt F e)] :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => by
    refine ⟨fun c => ?_, h.2⟩
    have one : ∀ b : Ref sig .tc, b ∈ [main_arg0, main_arg1, main_arg2, main_arg3, main_arg4, main_arg5] →
        r.2.mem ((c.tc : Thread nD τ).loc b) = m ((c.tc : Thread nD τ).loc b) := fun b hb =>
      (h.1 c (at' b) (named b (List.mem_append_left [main_v14, main_v16, main_v18] hb))).trans (args_kept m c b hb)
    exact ⟨one main_arg0 (by decide), one main_arg1 (by decide), one main_arg2 (by decide), one main_arg3 (by decide), one main_arg4 (by decide), one main_arg5 (by decide)⟩) (run m ρ)

end Cert.Proof.Ideal

end
-- ==== Proof.KernelFrame.lean ====
module

public import proofs.«01_k».proof.Proof.Ideal.Frame
public import proofs.«01_k».proof.Proof.Gen.Kernel

@[expose] public section

noncomputable section

namespace Cert.Proof

open Idealize.ShloMosaic Idealize.SL.Sem

/-- The kernel as printed is the idealized one, name for name; so its frame is the run of that one, at words. -/
theorem frame_kernel : Cert.quiescent_Kernel := fun m g _ => Cert.Proof.Ideal.frame_run (F := Bits) m g

end Cert.Proof

end
-- ==== Proof.Ref.Ops.lean ====
/-
  The reference as lists of its operations, cut where one quantity is finished, and its run: every buffer ends at what the
  lists leave of the launch's contents.
-/
module

public import proofs.«01_k».proof.Defs
public import proofs.«01_k».proof.Proof.Gen.ReferenceIdeal
public import Idealize.ShloMosaic.Lib.StableHlo.Run
public import Idealize.ShloMosaic.Lib.Pipeline.Frame

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The operations that compute the flip of the yaw, and which regions the first stage labelled. -/
abbrev opsSign : List (HloOp τ sig (Elt F)) :=
  [ nullary main_cst (constant S_ .f32 0x3F800000#32),
    unary main_cst main_v0 (broadcastInDim S7 ![] bcast_S_S7 : (⟨S_, .f32⟩ : BufTy).Contents (Elt F) → (⟨S7, .f32⟩ : BufTy).Contents (Elt F)),
    nullary main_c (constantI S_ 32 6#32),
    unary main_c main_v1 (broadcastInDim S1 ![] bcast_S_S1 : (⟨S_, .i32⟩ : BufTy).Contents (Elt F) → (⟨S1, .i32⟩ : BufTy).Contents (Elt F)),
    nullary main_cst_0 (constant S_ .f32 0xBF800000#32),
    ternary main_v0 main_v1 main_cst_0 main_v2 ((fun x i u => Host.scatter scatter_S7_S1_S__n_0_0_0 (fun _ b => b) x i u) : (⟨S7, .f32⟩ : BufTy).Contents (Elt F) → (⟨S1, .i32⟩ : BufTy).Contents (Elt F) → (⟨S_, .f32⟩ : BufTy).Contents (Elt F) → (⟨S7, .f32⟩ : BufTy).Contents (Elt F)),
    unary main_v2 main_v3 (broadcastInDim S1x1x7 ![2] bcast_S7_S1x1x7_2 : (⟨S7, .f32⟩ : BufTy).Contents (Elt F) → (⟨S1x1x7, .f32⟩ : BufTy).Contents (Elt F)),
    unary main_v3 main_v4 (broadcastInDim S4x128x7 ![0, 1, 2] bcast_S1x1x7_S4x128x7_0_1_2 : (⟨S1x1x7, .f32⟩ : BufTy).Contents (Elt F) → (⟨S4x128x7, .f32⟩ : BufTy).Contents (Elt F)),
    binary main_arg1 main_v4 main_v5 (mulf : (⟨S4x128x7, .f32⟩ : BufTy).Contents (Elt F) → (⟨S4x128x7, .f32⟩ : BufTy).Contents (Elt F) → (⟨S4x128x7, .f32⟩ : BufTy).Contents (Elt F)),
    unary main_v2 main_v6 (broadcastInDim S1x1x7 ![2] bcast_S7_S1x1x7_2 : (⟨S7, .f32⟩ : BufTy).Contents (Elt F) → (⟨S1x1x7, .f32⟩ : BufTy).Contents (Elt F)),
    unary main_v6 main_v7 (broadcastInDim S4x20000x7 ![0, 1, 2] bcast_S1x1x7_S4x20000x7_0_1_2 : (⟨S1x1x7, .f32⟩ : BufTy).Contents (Elt F) → (⟨S4x20000x7, .f32⟩ : BufTy).Contents (Elt F)),
    binary main_arg3 main_v7 main_v8 (mulf : (⟨S4x20000x7, .f32⟩ : BufTy).Contents (Elt F) → (⟨S4x20000x7, .f32⟩ : BufTy).Contents (Elt F) → (⟨S4x20000x7, .f32⟩ : BufTy).Contents (Elt F)),
    nullary main_c_1 (constantI S_ 32 0#32),
    unary main_c_1 main_v9 (broadcastInDim S4x20000 ![] bcast_S_S4x20000 : (⟨S_, .i32⟩ : BufTy).Contents (Elt F) → (⟨S4x20000, .i32⟩ : BufTy).Contents (Elt F)),
    binary main_arg4 main_v9 main_v10 (cmpi .sge : (⟨S4x20000, .i32⟩ : BufTy).Contents (Elt F) → (⟨S4x20000, .i32⟩ : BufTy).Contents (Elt F) → (⟨S4x20000, .i1⟩ : BufTy).Contents (Elt F)) ]

/-- The operations that compute the sides of every overlap. -/
abbrev opsSides : List (HloOp τ sig (Elt F)) :=
  [ unary main_arg0 main_v11 ((extractStridedSlice S4x20000x3 ![0, 0, 0] · slices_S4x20000x7_S4x20000x3_0_0_0) : (⟨S4x20000x7, .f32⟩ : BufTy).Contents (Elt F) → (⟨S4x20000x3, .f32⟩ : BufTy).Contents (Elt F)),
    unary main_v11 main_v12 (broadcastInDim S4x20000x1x3 ![0, 1, 3] bcast_S4x20000x3_S4x20000x1x3_0_1_3 : (⟨S4x20000x3, .f32⟩ : BufTy).Contents (Elt F) → (⟨S4x20000x1x3, .f32⟩ : BufTy).Contents (Elt F)),
    unary main_arg0 main_v13 ((extractStridedSlice S4x20000x3 ![0, 0, 3] · slices_S4x20000x7_S4x20000x3_0_0_3) : (⟨S4x20000x7, .f32⟩ : BufTy).Contents (Elt F) → (⟨S4x20000x3, .f32⟩ : BufTy).Contents (Elt F)),
    unary main_v13 main_v14 (broadcastInDim S4x20000x1x3 ![0, 1, 3] bcast_S4x20000x3_S4x20000x1x3_0_1_3 : (⟨S4x20000x3, .f32⟩ : BufTy).Contents (Elt F) → (⟨S4x20000x1x3, .f32⟩ : BufTy).Contents (Elt F)),
    nullary main_cst_2 (constant S_ .f32 0x3F000000#32),
    unary main_cst_2 main_v15 (broadcastInDim S4x20000x1x3 ![] bcast_S_S4x20000x1x3 : (⟨S_, .f32⟩ : BufTy).Contents (Elt F) → (⟨S4x20000x1x3, .f32⟩ : BufTy).Contents (Elt F)),
    binary main_v14 main_v15 main_v16 (mulf : (⟨S4x20000x1x3, .f32⟩ : BufTy).Contents (Elt F) → (⟨S4x20000x1x3, .f32⟩ : BufTy).Contents (Elt F) → (⟨S4x20000x1x3, .f32⟩ : BufTy).Contents (Elt F)),
    binary main_v12 main_v16 main_v17 (subf : (⟨S4x20000x1x3, .f32⟩ : BufTy).Contents (Elt F) → (⟨S4x20000x1x3, .f32⟩ : BufTy).Contents (Elt F) → (⟨S4x20000x1x3, .f32⟩ : BufTy).Contents (Elt F)),
    unary main_arg0 main_v18 ((extractStridedSlice S4x20000x3 ![0, 0, 0] · slices_S4x20000x7_S4x20000x3_0_0_0) : (⟨S4x20000x7, .f32⟩ : BufTy).Contents (Elt F) → (⟨S4x20000x3, .f32⟩ : BufTy).Contents (Elt F)),
    unary main_v18 main_v19 (broadcastInDim S4x20000x1x3 ![0, 1, 3] bcast_S4x20000x3_S4x20000x1x3_0_1_3 : (⟨S4x20000x3, .f32⟩ : BufTy).Contents (Elt F) → (⟨S4x20000x1x3, .f32⟩ : BufTy).Contents (Elt F)),
    unary main_arg0 main_v20 ((extractStridedSlice S4x20000x3 ![0, 0, 3] · slices_S4x20000x7_S4x20000x3_0_0_3) : (⟨S4x20000x7, .f32⟩ : BufTy).Contents (Elt F) → (⟨S4x20000x3, .f32⟩ : BufTy).Contents (Elt F)),
    unary main_v20 main_v21 (broadcastInDim S4x20000x1x3 ![0, 1, 3] bcast_S4x20000x3_S4x20000x1x3_0_1_3 : (⟨S4x20000x3, .f32⟩ : BufTy).Contents (Elt F) → (⟨S4x20000x1x3, .f32⟩ : BufTy).Contents (Elt F)),
    nullary main_cst_3 (constant S_ .f32 0x3F000000#32),
    unary main_cst_3 main_v22 (broadcastInDim S4x20000x1x3 ![] bcast_S_S4x20000x1x3 : (⟨S_, .f32⟩ : BufTy).Contents (Elt F) → (⟨S4x20000x1x3, .f32⟩ : BufTy).Contents (Elt F)),
    binary main_v21 main_v22 main_v23 (mulf : (⟨S4x20000x1x3, .f32⟩ : BufTy).Contents (Elt F) → (⟨S4x20000x1x3, .f32⟩ : BufTy).Contents (Elt F) → (⟨S4x20000x1x3, .f32⟩ : BufTy).Contents (Elt F)),
    binary main_v19 main_v23 main_v24 (addf : (⟨S4x20000x1x3, .f32⟩ : BufTy).Contents (Elt F) → (⟨S4x20000x1x3, .f32⟩ : BufTy).Contents (Elt F) → (⟨S4x20000x1x3, .f32⟩ : BufTy).Contents (Elt F)),
    unary main_v5 main_v25 ((extractStridedSlice S4x128x3 ![0, 0, 0] · slices_S4x128x7_S4x128x3_0_0_0) : (⟨S4x128x7, .f32⟩ : BufTy).Contents (Elt F) → (⟨S4x128x3, .f32⟩ : BufTy).Contents (Elt F)),
    unary main_v25 main_v26 (broadcastInDim S4x1x128x3 ![0, 2, 3] bcast_S4x128x3_S4x1x128x3_0_2_3 : (⟨S4x128x3, .f32⟩ : BufTy).Contents (Elt F) → (⟨S4x1x128x3, .f32⟩ : BufTy).Contents (Elt F)),
    unary main_v5 main_v27 ((extractStridedSlice S4x128x3 ![0, 0, 3] · slices_S4x128x7_S4x128x3_0_0_3) : (⟨S4x128x7, .f32⟩ : BufTy).Contents (Elt F) → (⟨S4x128x3, .f32⟩ : BufTy).Contents (Elt F)),
    unary main_v27 main_v28 (broadcastInDim S4x1x128x3 ![0, 2, 3] bcast_S4x128x3_S4x1x128x3_0_2_3 : (⟨S4x128x3, .f32⟩ : BufTy).Contents (Elt F) → (⟨S4x1x128x3, .f32⟩ : BufTy).Contents (Elt F)),
    nullary main_cst_4 (constant S_ .f32 0x3F000000#32),
    unary main_cst_4 main_v29 (broadcastInDim S4x1x128x3 ![] bcast_S_S4x1x128x3 : (⟨S_, .f32⟩ : BufTy).Contents (Elt F) → (⟨S4x1x128x3, .f32⟩ : BufTy).Contents (Elt F)),
    binary main_v28 main_v29 main_v30 (mulf : (⟨S4x1x128x3, .f32⟩ : BufTy).Contents (Elt F) → (⟨S4x1x128x3, .f32⟩ : BufTy).Contents (Elt F) → (⟨S4x1x128x3, .f32⟩ : BufTy).Contents (Elt F)),
    binary main_v26 main_v30 main_v31 (subf : (⟨S4x1x128x3, .f32⟩ : BufTy).Contents (Elt F) → (⟨S4x1x128x3, .f32⟩ : BufTy).Contents (Elt F) → (⟨S4x1x128x3, .f32⟩ : BufTy).Contents (Elt F)),
    unary main_v5 main_v32 ((extractStridedSlice S4x128x3 ![0, 0, 0] · slices_S4x128x7_S4x128x3_0_0_0) : (⟨S4x128x7, .f32⟩ : BufTy).Contents (Elt F) → (⟨S4x128x3, .f32⟩ : BufTy).Contents (Elt F)),
    unary main_v32 main_v33 (broadcastInDim S4x1x128x3 ![0, 2, 3] bcast_S4x128x3_S4x1x128x3_0_2_3 : (⟨S4x128x3, .f32⟩ : BufTy).Contents (Elt F) → (⟨S4x1x128x3, .f32⟩ : BufTy).Contents (Elt F)),
    unary main_v5 main_v34 ((extractStridedSlice S4x128x3 ![0, 0, 3] · slices_S4x128x7_S4x128x3_0_0_3) : (⟨S4x128x7, .f32⟩ : BufTy).Contents (Elt F) → (⟨S4x128x3, .f32⟩ : BufTy).Contents (Elt F)),
    unary main_v34 main_v35 (broadcastInDim S4x1x128x3 ![0, 2, 3] bcast_S4x128x3_S4x1x128x3_0_2_3 : (⟨S4x128x3, .f32⟩ : BufTy).Contents (Elt F) → (⟨S4x1x128x3, .f32⟩ : BufTy).Contents (Elt F)),
    nullary main_cst_5 (constant S_ .f32 0x3F000000#32),
    unary main_cst_5 main_v36 (broadcastInDim S4x1x128x3 ![] bcast_S_S4x1x128x3 : (⟨S_, .f32⟩ : BufTy).Contents (Elt F) → (⟨S4x1x128x3, .f32⟩ : BufTy).Contents (Elt F)),
    binary main_v35 main_v36 main_v37 (mulf : (⟨S4x1x128x3, .f32⟩ : BufTy).Contents (Elt F) → (⟨S4x1x128x3, .f32⟩ : BufTy).Contents (Elt F) → (⟨S4x1x128x3, .f32⟩ : BufTy).Contents (Elt F)),
    binary main_v33 main_v37 main_v38 (addf : (⟨S4x1x128x3, .f32⟩ : BufTy).Contents (Elt F) → (⟨S4x1x128x3, .f32⟩ : BufTy).Contents (Elt F) → (⟨S4x1x128x3, .f32⟩ : BufTy).Contents (Elt F)),
    unary main_v24 main_v39 (broadcastInDim S4x20000x128x3 ![0, 1, 2, 3] bcast_S4x20000x1x3_S4x20000x128x3_0_1_2_3 : (⟨S4x20000x1x3, .f32⟩ : BufTy).Contents (Elt F) → (⟨S4x20000x128x3, .f32⟩ : BufTy).Contents (Elt F)),
    unary main_v38 main_v40 (broadcastInDim S4x20000x128x3 ![0, 1, 2, 3] bcast_S4x1x128x3_S4x20000x128x3_0_1_2_3 : (⟨S4x1x128x3, .f32⟩ : BufTy).Contents (Elt F) → (⟨S4x20000x128x3, .f32⟩ : BufTy).Contents (Elt F)),
    binary main_v39 main_v40 main_v41 (minimumf : (⟨S4x20000x128x3, .f32⟩ : BufTy).Contents (Elt F) → (⟨S4x20000x128x3, .f32⟩ : BufTy).Contents (Elt F) → (⟨S4x20000x128x3, .f32⟩ : BufTy).Contents (Elt F)),
    unary main_v17 main_v42 (broadcastInDim S4x20000x128x3 ![0, 1, 2, 3] bcast_S4x20000x1x3_S4x20000x128x3_0_1_2_3 : (⟨S4x20000x1x3, .f32⟩ : BufTy).Contents (Elt F) → (⟨S4x20000x128x3, .f32⟩ : BufTy).Contents (Elt F)),
    unary main_v31 main_v43 (broadcastInDim S4x20000x128x3 ![0, 1, 2, 3] bcast_S4x1x128x3_S4x20000x128x3_0_1_2_3 : (⟨S4x1x128x3, .f32⟩ : BufTy).Contents (Elt F) → (⟨S4x20000x128x3, .f32⟩ : BufTy).Contents (Elt F)),
    binary main_v42 main_v43 main_v44 (maximumf : (⟨S4x20000x128x3, .f32⟩ : BufTy).Contents (Elt F) → (⟨S4x20000x128x3, .f32⟩ : BufTy).Contents (Elt F) → (⟨S4x20000x128x3, .f32⟩ : BufTy).Contents (Elt F)),
    binary main_v41 main_v44 main_v45 (subf : (⟨S4x20000x128x3, .f32⟩ : BufTy).Contents (Elt F) → (⟨S4x20000x128x3, .f32⟩ : BufTy).Contents (Elt F) → (⟨S4x20000x128x3, .f32⟩ : BufTy).Contents (Elt F)),
    nullary main_cst_6 (constant S_ .f32 0x00000000#32),
    TRef.unary (.of main_cst_6 : TRef sig ⟨S_, .f32⟩) (.of main_call0_v0 : TRef sig ⟨S_, .f32⟩) id,
    TRef.unary (.of main_call0_v0 : TRef sig ⟨S_, .f32⟩) (.of main_call0_v1 : TRef sig ⟨S4x20000x128x3, .f32⟩) (broadcastInDim S4x20000x128x3 ![] bcast_S_S4x20000x128x3),
    TRef.binary (.of main_call0_v1 : TRef sig ⟨S4x20000x128x3, .f32⟩) (.of main_v45 : TRef sig ⟨S4x20000x128x3, .f32⟩) (.of main_v46 : TRef sig ⟨S4x20000x128x3, .f32⟩) maximumf ]

/-- The operations that compute the first two sides, as arrays of their own. -/
abbrev opsPick : List (HloOp τ sig (Elt F)) :=
  [ unary main_v46 main_v47 ((extractStridedSlice S4x20000x128x1 ![0, 0, 0, 0] · slices_S4x20000x128x3_S4x20000x128x1_0_0_0_0) : (⟨S4x20000x128x3, .f32⟩ : BufTy).Contents (Elt F) → (⟨S4x20000x128x1, .f32⟩ : BufTy).Contents (Elt F)),
    reshape main_v47 main_v48 (rfl : (.f32 : EltTy) = .f32) shapeCasts_S4x20000x128x1_S4x20000x128,
    unary main_v46 main_v49 ((extractStridedSlice S4x20000x128x1 ![0, 0, 0, 1] · slices_S4x20000x128x3_S4x20000x128x1_0_0_0_1) : (⟨S4x20000x128x3, .f32⟩ : BufTy).Contents (Elt F) → (⟨S4x20000x128x1, .f32⟩ : BufTy).Contents (Elt F)),
    reshape main_v49 main_v50 (rfl : (.f32 : EltTy) = .f32) shapeCasts_S4x20000x128x1_S4x20000x128 ]

/-- The operations that compute every ratio of overlap to union. -/
abbrev opsRatio : List (HloOp τ sig (Elt F)) :=
  [ binary main_v48 main_v50 main_v51 (mulf : (⟨S4x20000x128, .f32⟩ : BufTy).Contents (Elt F) → (⟨S4x20000x128, .f32⟩ : BufTy).Contents (Elt F) → (⟨S4x20000x128, .f32⟩ : BufTy).Contents (Elt F)),
    unary main_v46 main_v52 ((extractStridedSlice S4x20000x128x1 ![0, 0, 0, 2] · slices_S4x20000x128x3_S4x20000x128x1_0_0_0_2) : (⟨S4x20000x128x3, .f32⟩ : BufTy).Contents (Elt F) → (⟨S4x20000x128x1, .f32⟩ : BufTy).Contents (Elt F)),
    reshape main_v52 main_v53 (rfl : (.f32 : EltTy) = .f32) shapeCasts_S4x20000x128x1_S4x20000x128,
    binary main_v51 main_v53 main_v54 (mulf : (⟨S4x20000x128, .f32⟩ : BufTy).Contents (Elt F) → (⟨S4x20000x128, .f32⟩ : BufTy).Contents (Elt F) → (⟨S4x20000x128, .f32⟩ : BufTy).Contents (Elt F)),
    unary main_arg0 main_v55 ((extractStridedSlice S4x20000x3 ![0, 0, 3] · slices_S4x20000x7_S4x20000x3_0_0_3) : (⟨S4x20000x7, .f32⟩ : BufTy).Contents (Elt F) → (⟨S4x20000x3, .f32⟩ : BufTy).Contents (Elt F)),
    unary main_v55 main_v56 ((extractStridedSlice S4x20000x1 ![0, 0, 0] · slices_S4x20000x3_S4x20000x1_0_0_0) : (⟨S4x20000x3, .f32⟩ : BufTy).Contents (Elt F) → (⟨S4x20000x1, .f32⟩ : BufTy).Contents (Elt F)),
    reshape main_v56 main_v57 (rfl : (.f32 : EltTy) = .f32) shapeCasts_S4x20000x1_S4x20000,
    unary main_v55 main_v58 ((extractStridedSlice S4x20000x1 ![0, 0, 1] · slices_S4x20000x3_S4x20000x1_0_0_1) : (⟨S4x20000x3, .f32⟩ : BufTy).Contents (Elt F) → (⟨S4x20000x1, .f32⟩ : BufTy).Contents (Elt F)),
    reshape main_v58 main_v59 (rfl : (.f32 : EltTy) = .f32) shapeCasts_S4x20000x1_S4x20000,
    binary main_v57 main_v59 main_v60 (mulf : (⟨S4x20000, .f32⟩ : BufTy).Contents (Elt F) → (⟨S4x20000, .f32⟩ : BufTy).Contents (Elt F) → (⟨S4x20000, .f32⟩ : BufTy).Contents (Elt F)),
    unary main_v55 main_v61 ((extractStridedSlice S4x20000x1 ![0, 0, 2] · slices_S4x20000x3_S4x20000x1_0_0_2) : (⟨S4x20000x3, .f32⟩ : BufTy).Contents (Elt F) → (⟨S4x20000x1, .f32⟩ : BufTy).Contents (Elt F)),
    reshape main_v61 main_v62 (rfl : (.f32 : EltTy) = .f32) shapeCasts_S4x20000x1_S4x20000,
    binary main_v60 main_v62 main_v63 (mulf : (⟨S4x20000, .f32⟩ : BufTy).Contents (Elt F) → (⟨S4x20000, .f32⟩ : BufTy).Contents (Elt F) → (⟨S4x20000, .f32⟩ : BufTy).Contents (Elt F)),
    unary main_v63 main_v64 (broadcastInDim S4x20000x1 ![0, 1] bcast_S4x20000_S4x20000x1_0_1 : (⟨S4x20000, .f32⟩ : BufTy).Contents (Elt F) → (⟨S4x20000x1, .f32⟩ : BufTy).Contents (Elt F)),
    unary main_v5 main_v65 ((extractStridedSlice S4x128x3 ![0, 0, 3] · slices_S4x128x7_S4x128x3_0_0_3) : (⟨S4x128x7, .f32⟩ : BufTy).Contents (Elt F) → (⟨S4x128x3, .f32⟩ : BufTy).Contents (Elt F)),
    unary main_v65 main_v66 ((extractStridedSlice S4x128x1 ![0, 0, 0] · slices_S4x128x3_S4x128x1_0_0_0) : (⟨S4x128x3, .f32⟩ : BufTy).Contents (Elt F) → (⟨S4x128x1, .f32⟩ : BufTy).Contents (Elt F)),
    reshape main_v66 main_v67 (rfl : (.f32 : EltTy) = .f32) shapeCasts_S4x128x1_S4x128,
    unary main_v65 main_v68 ((extractStridedSlice S4x128x1 ![0, 0, 1] · slices_S4x128x3_S4x128x1_0_0_1) : (⟨S4x128x3, .f32⟩ : BufTy).Contents (Elt F) → (⟨S4x128x1, .f32⟩ : BufTy).Contents (Elt F)),
    reshape main_v68 main_v69 (rfl : (.f32 : EltTy) = .f32) shapeCasts_S4x128x1_S4x128,
    binary main_v67 main_v69 main_v70 (mulf : (⟨S4x128, .f32⟩ : BufTy).Contents (Elt F) → (⟨S4x128, .f32⟩ : BufTy).Contents (Elt F) → (⟨S4x128, .f32⟩ : BufTy).Contents (Elt F)),
    unary main_v65 main_v71 ((extractStridedSlice S4x128x1 ![0, 0, 2] · slices_S4x128x3_S4x128x1_0_0_2) : (⟨S4x128x3, .f32⟩ : BufTy).Contents (Elt F) → (⟨S4x128x1, .f32⟩ : BufTy).Contents (Elt F)),
    reshape main_v71 main_v72 (rfl : (.f32 : EltTy) = .f32) shapeCasts_S4x128x1_S4x128,
    binary main_v70 main_v72 main_v73 (mulf : (⟨S4x128, .f32⟩ : BufTy).Contents (Elt F) → (⟨S4x128, .f32⟩ : BufTy).Contents (Elt F) → (⟨S4x128, .f32⟩ : BufTy).Contents (Elt F)),
    unary main_v73 main_v74 (broadcastInDim S4x1x128 ![0, 2] bcast_S4x128_S4x1x128_0_2 : (⟨S4x128, .f32⟩ : BufTy).Contents (Elt F) → (⟨S4x1x128, .f32⟩ : BufTy).Contents (Elt F)),
    unary main_v64 main_v75 (broadcastInDim S4x20000x128 ![0, 1, 2] bcast_S4x20000x1_S4x20000x128_0_1_2 : (⟨S4x20000x1, .f32⟩ : BufTy).Contents (Elt F) → (⟨S4x20000x128, .f32⟩ : BufTy).Contents (Elt F)),
    unary main_v74 main_v76 (broadcastInDim S4x20000x128 ![0, 1, 2] bcast_S4x1x128_S4x20000x128_0_1_2 : (⟨S4x1x128, .f32⟩ : BufTy).Contents (Elt F) → (⟨S4x20000x128, .f32⟩ : BufTy).Contents (Elt F)),
    binary main_v75 main_v76 main_v77 (addf : (⟨S4x20000x128, .f32⟩ : BufTy).Contents (Elt F) → (⟨S4x20000x128, .f32⟩ : BufTy).Contents (Elt F) → (⟨S4x20000x128, .f32⟩ : BufTy).Contents (Elt F)),
    binary main_v77 main_v54 main_v78 (subf : (⟨S4x20000x128, .f32⟩ : BufTy).Contents (Elt F) → (⟨S4x20000x128, .f32⟩ : BufTy).Contents (Elt F) → (⟨S4x20000x128, .f32⟩ : BufTy).Contents (Elt F)),
    nullary main_cst_7 (constant S_ .f32 0x322BCC77#32),
    unary main_cst_7 main_v79 (broadcastInDim S4x20000x128 ![] bcast_S_S4x20000x128 : (⟨S_, .f32⟩ : BufTy).Contents (Elt F) → (⟨S4x20000x128, .f32⟩ : BufTy).Contents (Elt F)),
    binary main_v78 main_v79 main_v80 (addf : (⟨S4x20000x128, .f32⟩ : BufTy).Contents (Elt F) → (⟨S4x20000x128, .f32⟩ : BufTy).Contents (Elt F) → (⟨S4x20000x128, .f32⟩ : BufTy).Contents (Elt F)),
    binary main_v54 main_v80 main_v81 (Host.divf : (⟨S4x20000x128, .f32⟩ : BufTy).Contents (Elt F) → (⟨S4x20000x128, .f32⟩ : BufTy).Contents (Elt F) → (⟨S4x20000x128, .f32⟩ : BufTy).Contents (Elt F)) ]

/-- The operations that compute each region's largest ratio and the first box that attains it. -/
abbrev opsBest : List (HloOp τ sig (Elt F)) :=
  [ nullary main_cst_8 (constant S_ .f32 0xFF800000#32),
    binary main_v81 main_cst_8 main_v82 ((fun x v => Host.reduce FloatOps.maximumf x v reducesTo_S4x20000x128_S4x20000_d2 h_S_) : (⟨S4x20000x128, .f32⟩ : BufTy).Contents (Elt F) → (⟨S_, .f32⟩ : BufTy).Contents (Elt F) → (⟨S4x20000, .f32⟩ : BufTy).Contents (Elt F)),
    TRef.nullary (.of main_call1_v0 : TRef sig ⟨S4x20000x128, .i32⟩) (iotaInDim S4x20000x128 32 2),
    TRef.nullary (.of main_call1_cst : TRef sig ⟨S_, .f32⟩) (constant S_ .f32 0xFF800000#32),
    TRef.nullary (.of main_call1_c : TRef sig ⟨S_, .i32⟩) (constantI S_ 32 0#32),
    TRef.quaternary (.of main_v81 : TRef sig ⟨S4x20000x128, .f32⟩) (.of main_call1_v0 : TRef sig ⟨S4x20000x128, .i32⟩) (.of main_call1_cst : TRef sig ⟨S_, .f32⟩) (.of main_call1_c : TRef sig ⟨S_, .i32⟩) (.of main_call1_v1_0 : TRef sig ⟨S4x20000, .f32⟩) (fun x y u v j => (Host.argReduce reducer_argmax_f32_i32 x y u v reducesTo_S4x20000x128_S4x20000_d2 h_S_ j).1),
    TRef.quaternary (.of main_v81 : TRef sig ⟨S4x20000x128, .f32⟩) (.of main_call1_v0 : TRef sig ⟨S4x20000x128, .i32⟩) (.of main_call1_cst : TRef sig ⟨S_, .f32⟩) (.of main_call1_c : TRef sig ⟨S_, .i32⟩) (.of main_v83 : TRef sig ⟨S4x20000, .i32⟩) (fun x y u v j => (Host.argReduce reducer_argmax_f32_i32 x y u v reducesTo_S4x20000x128_S4x20000_d2 h_S_ j).2) ]

/-- The operations that compute that box. -/
abbrev opsBox : List (HloOp τ sig (Elt F)) :=
  [ nullary main_c_9 (constantI S_ 32 0#32),
    unary main_c_9 main_v84 (broadcastInDim S4x20000 ![] bcast_S_S4x20000 : (⟨S_, .i32⟩ : BufTy).Contents (Elt F) → (⟨S4x20000, .i32⟩ : BufTy).Contents (Elt F)),
    binary main_v83 main_v84 main_v85 (cmpi .slt : (⟨S4x20000, .i32⟩ : BufTy).Contents (Elt F) → (⟨S4x20000, .i32⟩ : BufTy).Contents (Elt F) → (⟨S4x20000, .i1⟩ : BufTy).Contents (Elt F)),
    nullary main_c_10 (constantI S_ 32 128#32),
    unary main_c_10 main_v86 (broadcastInDim S4x20000 ![] bcast_S_S4x20000 : (⟨S_, .i32⟩ : BufTy).Contents (Elt F) → (⟨S4x20000, .i32⟩ : BufTy).Contents (Elt F)),
    binary main_v83 main_v86 main_v87 (addi : (⟨S4x20000, .i32⟩ : BufTy).Contents (Elt F) → (⟨S4x20000, .i32⟩ : BufTy).Contents (Elt F) → (⟨S4x20000, .i32⟩ : BufTy).Contents (Elt F)),
    ternary main_v85 main_v87 main_v83 main_v88 (select : (⟨S4x20000, .i1⟩ : BufTy).Contents (Elt F) → (⟨S4x20000, .i32⟩ : BufTy).Contents (Elt F) → (⟨S4x20000, .i32⟩ : BufTy).Contents (Elt F) → (⟨S4x20000, .i32⟩ : BufTy).Contents (Elt F)),
    unary main_v88 main_v89 (broadcastInDim S4x20000x1 ![0, 1] bcast_S4x20000_S4x20000x1_0_1 : (⟨S4x20000, .i32⟩ : BufTy).Contents (Elt F) → (⟨S4x20000x1, .i32⟩ : BufTy).Contents (Elt F)),
    binary main_v5 main_v89 main_v90 ((fun x i => Host.gather gather_S4x128x7_S4x20000x1_S4x20000x7_2_1_0_0_1_2_117 x i) : (⟨S4x128x7, .f32⟩ : BufTy).Contents (Elt F) → (⟨S4x20000x1, .i32⟩ : BufTy).Contents (Elt F) → (⟨S4x20000x7, .f32⟩ : BufTy).Contents (Elt F)) ]

/-- The operations that compute that box's label. -/
abbrev opsLabel : List (HloOp τ sig (Elt F)) :=
  [ TRef.nullary (.of main_call2_c : TRef sig ⟨S_, .i32⟩) (constantI S_ 32 0#32),
    TRef.unary (.of main_call2_c : TRef sig ⟨S_, .i32⟩) (.of main_call2_v0 : TRef sig ⟨S4x20000, .i32⟩) (broadcastInDim S4x20000 ![] bcast_S_S4x20000),
    TRef.binary (.of main_v83 : TRef sig ⟨S4x20000, .i32⟩) (.of main_call2_v0 : TRef sig ⟨S4x20000, .i32⟩) (.of main_call2_v1 : TRef sig ⟨S4x20000, .i1⟩) (cmpi .slt),
    TRef.nullary (.of main_call2_c_0 : TRef sig ⟨S_, .i32⟩) (constantI S_ 32 128#32),
    TRef.unary (.of main_call2_c_0 : TRef sig ⟨S_, .i32⟩) (.of main_call2_v2 : TRef sig ⟨S4x20000, .i32⟩) (broadcastInDim S4x20000 ![] bcast_S_S4x20000),
    TRef.binary (.of main_v83 : TRef sig ⟨S4x20000, .i32⟩) (.of main_call2_v2 : TRef sig ⟨S4x20000, .i32⟩) (.of main_call2_v3 : TRef sig ⟨S4x20000, .i32⟩) addi,
    TRef.ternary (.of main_call2_v1 : TRef sig ⟨S4x20000, .i1⟩) (.of main_call2_v3 : TRef sig ⟨S4x20000, .i32⟩) (.of main_v83 : TRef sig ⟨S4x20000, .i32⟩) (.of main_call2_v4 : TRef sig ⟨S4x20000, .i32⟩) select,
    TRef.reshape (.of main_call2_v4 : TRef sig ⟨S4x20000, .i32⟩) (.of main_call2_v5 : TRef sig ⟨S4x20000x1, .i32⟩) (rfl : (.i32 : EltTy) = .i32) shapeCasts_S4x20000_S4x20000x1,
    TRef.nullary (.of main_call2_c_1 : TRef sig ⟨S1, .i32⟩) (constantI S1 32 127#32),
    TRef.nullary (.of main_call2_c_2 : TRef sig ⟨S_, .i32⟩) (constantI S_ 32 0#32),
    TRef.unary (.of main_call2_c_2 : TRef sig ⟨S_, .i32⟩) (.of main_call2_v6 : TRef sig ⟨S4x20000x1, .i32⟩) (broadcastInDim S4x20000x1 ![] bcast_S_S4x20000x1),
    TRef.binary (.of main_call2_v5 : TRef sig ⟨S4x20000x1, .i32⟩) (.of main_call2_v6 : TRef sig ⟨S4x20000x1, .i32⟩) (.of main_call2_v7 : TRef sig ⟨S4x20000x1, .i1⟩) (cmpi .sge),
    TRef.unary (.of main_call2_c_1 : TRef sig ⟨S1, .i32⟩) (.of main_call2_v8 : TRef sig ⟨S1x1x1, .i32⟩) (broadcastInDim S1x1x1 ![2] bcast_S1_S1x1x1_2),
    TRef.unary (.of main_call2_v8 : TRef sig ⟨S1x1x1, .i32⟩) (.of main_call2_v9 : TRef sig ⟨S4x20000x1, .i32⟩) (broadcastInDim S4x20000x1 ![0, 1, 2] bcast_S1x1x1_S4x20000x1_0_1_2),
    TRef.binary (.of main_call2_v5 : TRef sig ⟨S4x20000x1, .i32⟩) (.of main_call2_v9 : TRef sig ⟨S4x20000x1, .i32⟩) (.of main_call2_v10 : TRef sig ⟨S4x20000x1, .i1⟩) (cmpi .sle),
    TRef.binary (.of main_call2_v7 : TRef sig ⟨S4x20000x1, .i1⟩) (.of main_call2_v10 : TRef sig ⟨S4x20000x1, .i1⟩) (.of main_call2_v11 : TRef sig ⟨S4x20000x1, .i1⟩) andi,
    TRef.nullary (.of main_call2_c_3 : TRef sig ⟨S_, .i1⟩) (constantI S_ 1 1#1),
    TRef.binary (.of main_call2_v11 : TRef sig ⟨S4x20000x1, .i1⟩) (.of main_call2_c_3 : TRef sig ⟨S_, .i1⟩) (.of main_call2_v12 : TRef sig ⟨S4x20000, .i1⟩) (fun x v => Host.reduce IntOp.andi x v reducesTo_S4x20000x1_S4x20000_d2 h_S_),
    TRef.binary (.of main_arg2 : TRef sig ⟨S4x128, .i32⟩) (.of main_call2_v5 : TRef sig ⟨S4x20000x1, .i32⟩) (.of main_call2_v13 : TRef sig ⟨S4x20000, .i32⟩) (fun x i => Host.gather gather_S4x128_S4x20000x1_S4x20000_n_1_0_0_1_2_11 x i),
    TRef.nullary (.of main_call2_c_4 : TRef sig ⟨S_, .i32⟩) (constantI S_ 32 2147483648#32),
    TRef.unary (.of main_call2_c_4 : TRef sig ⟨S_, .i32⟩) (.of main_call2_v14 : TRef sig ⟨S4x20000, .i32⟩) (broadcastInDim S4x20000 ![] bcast_S_S4x20000),
    TRef.ternary (.of main_call2_v12 : TRef sig ⟨S4x20000, .i1⟩) (.of main_call2_v13 : TRef sig ⟨S4x20000, .i32⟩) (.of main_call2_v14 : TRef sig ⟨S4x20000, .i32⟩) (.of main_v91 : TRef sig ⟨S4x20000, .i32⟩) select ]

/-- The operations that compute the three results. -/
abbrev opsOut : List (HloOp τ sig (Elt F)) :=
  [ unary main_v10 main_v92 (noti : (⟨S4x20000, .i1⟩ : BufTy).Contents (Elt F) → (⟨S4x20000, .i1⟩ : BufTy).Contents (Elt F)),
    nullary main_cst_11 (constant S_ .f32 0x3E99999A#32),
    unary main_cst_11 main_v93 (broadcastInDim S4x20000 ![] bcast_S_S4x20000 : (⟨S_, .f32⟩ : BufTy).Contents (Elt F) → (⟨S4x20000, .f32⟩ : BufTy).Contents (Elt F)),
    binary main_v82 main_v93 main_v94 (cmpf .oge : (⟨S4x20000, .f32⟩ : BufTy).Contents (Elt F) → (⟨S4x20000, .f32⟩ : BufTy).Contents (Elt F) → (⟨S4x20000, .i1⟩ : BufTy).Contents (Elt F)),
    binary main_v92 main_v94 main_v95 (andi : (⟨S4x20000, .i1⟩ : BufTy).Contents (Elt F) → (⟨S4x20000, .i1⟩ : BufTy).Contents (Elt F) → (⟨S4x20000, .i1⟩ : BufTy).Contents (Elt F)),
    unary main_v10 main_v96 (broadcastInDim S4x20000x1 ![0, 1] bcast_S4x20000_S4x20000x1_0_1 : (⟨S4x20000, .i1⟩ : BufTy).Contents (Elt F) → (⟨S4x20000x1, .i1⟩ : BufTy).Contents (Elt F)),
    unary main_v95 main_v97 (broadcastInDim S4x20000x1 ![0, 1] bcast_S4x20000_S4x20000x1_0_1 : (⟨S4x20000, .i1⟩ : BufTy).Contents (Elt F) → (⟨S4x20000x1, .i1⟩ : BufTy).Contents (Elt F)),
    nullary main_cst_12 (constant S_ .f32 0x00000000#32),
    TRef.unary (.of main_cst_12 : TRef sig ⟨S_, .f32⟩) (.of main_call3_v0 : TRef sig ⟨S_, .f32⟩) id,
    TRef.unary (.of main_v97 : TRef sig ⟨S4x20000x1, .i1⟩) (.of main_call3_v1 : TRef sig ⟨S4x20000x7, .i1⟩) (broadcastInDim S4x20000x7 ![0, 1, 2] bcast_S4x20000x1_S4x20000x7_0_1_2),
    TRef.unary (.of main_call3_v0 : TRef sig ⟨S_, .f32⟩) (.of main_call3_v2 : TRef sig ⟨S4x20000x7, .f32⟩) (broadcastInDim S4x20000x7 ![] bcast_S_S4x20000x7),
    TRef.ternary (.of main_call3_v1 : TRef sig ⟨S4x20000x7, .i1⟩) (.of main_v90 : TRef sig ⟨S4x20000x7, .f32⟩) (.of main_call3_v2 : TRef sig ⟨S4x20000x7, .f32⟩) (.of main_v98 : TRef sig ⟨S4x20000x7, .f32⟩) select,
    TRef.unary (.of main_v96 : TRef sig ⟨S4x20000x1, .i1⟩) (.of main_call4_v0 : TRef sig ⟨S4x20000x7, .i1⟩) (broadcastInDim S4x20000x7 ![0, 1, 2] bcast_S4x20000x1_S4x20000x7_0_1_2),
    TRef.ternary (.of main_call4_v0 : TRef sig ⟨S4x20000x7, .i1⟩) (.of main_v8 : TRef sig ⟨S4x20000x7, .f32⟩) (.of main_v98 : TRef sig ⟨S4x20000x7, .f32⟩) (.of main_v99 : TRef sig ⟨S4x20000x7, .f32⟩) select,
    nullary main_c_13 (constantI S_ 32 11#32),
    TRef.unary (.of main_c_13 : TRef sig ⟨S_, .i32⟩) (.of main_call5_v0 : TRef sig ⟨S_, .i32⟩) id,
    TRef.unary (.of main_call5_v0 : TRef sig ⟨S_, .i32⟩) (.of main_call5_v1 : TRef sig ⟨S4x20000, .i32⟩) (broadcastInDim S4x20000 ![] bcast_S_S4x20000),
    TRef.ternary (.of main_v95 : TRef sig ⟨S4x20000, .i1⟩) (.of main_v91 : TRef sig ⟨S4x20000, .i32⟩) (.of main_call5_v1 : TRef sig ⟨S4x20000, .i32⟩) (.of main_v100 : TRef sig ⟨S4x20000, .i32⟩) select,
    TRef.ternary (.of main_v10 : TRef sig ⟨S4x20000, .i1⟩) (.of main_arg4 : TRef sig ⟨S4x20000, .i32⟩) (.of main_v100 : TRef sig ⟨S4x20000, .i32⟩) (.of main_v101 : TRef sig ⟨S4x20000, .i32⟩) select,
    binary main_v10 main_v95 main_v102 (ori : (⟨S4x20000, .i1⟩ : BufTy).Contents (Elt F) → (⟨S4x20000, .i1⟩ : BufTy).Contents (Elt F) → (⟨S4x20000, .i1⟩ : BufTy).Contents (Elt F)),
    unary main_v102 main_v103 (uitofp .f32 : (⟨S4x20000, .i1⟩ : BufTy).Contents (Elt F) → (⟨S4x20000, .f32⟩ : BufTy).Contents (Elt F)) ]

/-- The operations of the reference's first part, of its second, and all of them. -/
def opsFirst : List (HloOp τ sig (Elt F)) := opsSign ++ (opsSides ++ opsPick)
def opsSecond : List (HloOp τ sig (Elt F)) := opsRatio ++ (opsBest ++ (opsBox ++ (opsLabel ++ opsOut)))
abbrev ops : List (HloOp τ sig (Elt F)) := opsFirst ++ (opsSecond ++ [])

set_option maxRecDepth 8192 in
set_option maxHeartbeats 4000000 in
theorem first_eq (d : Dev nD) : main_part0 (F := F) d = seq opsFirst := rfl
set_option maxRecDepth 8192 in
set_option maxHeartbeats 4000000 in
theorem second_eq (d : Dev nD) : main_part1 (F := F) d = seq opsSecond := rfl
/-- The third part only returns. -/
theorem third_eq (d : Dev nD) : main_part2 (F := F) d = seq [] := rfl

/-- The reference is its operations, in order. -/
theorem main_eq (d : Dev nD) : main (F := F) d = seq ops := by
  simp only [ops, seq_append, ← first_eq d, ← second_eq d, ← third_eq d]
  rfl

/-- The reference has no scoped buffer and no scoped semaphore. -/
theorem no_scoped_refs : (Finset.univ.filter fun b : Ref sig .tc => b.isScoped) = ∅ := by decide
theorem no_scoped_sems : (Finset.univ.filter fun s : SemLoc sig => s.isScoped .tc) = ∅ := by decide

set_option maxRecDepth 8192 in
theorem opsSign_bufs : (opsSign : List (HloOp τ sig (Elt F))).Forall fun op => op.bufs ⊆ tcRefs τ sig :=
  ⟨nullary_bufs_sub .., unary_bufs_sub .., nullary_bufs_sub .., unary_bufs_sub .., nullary_bufs_sub .., ternary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem opsSides_bufs : (opsSides : List (HloOp τ sig (Elt F))).Forall fun op => op.bufs ⊆ tcRefs τ sig :=
  ⟨unary_bufs_sub .., unary_bufs_sub .., unary_bufs_sub .., unary_bufs_sub .., nullary_bufs_sub .., unary_bufs_sub .., binary_bufs_sub .., binary_bufs_sub .., unary_bufs_sub .., unary_bufs_sub .., unary_bufs_sub .., unary_bufs_sub .., nullary_bufs_sub .., unary_bufs_sub .., binary_bufs_sub .., binary_bufs_sub .., unary_bufs_sub .., unary_bufs_sub .., unary_bufs_sub .., unary_bufs_sub .., nullary_bufs_sub .., unary_bufs_sub .., binary_bufs_sub .., binary_bufs_sub .., unary_bufs_sub .., unary_bufs_sub .., unary_bufs_sub .., unary_bufs_sub .., nullary_bufs_sub .., unary_bufs_sub .., binary_bufs_sub .., binary_bufs_sub .., unary_bufs_sub .., unary_bufs_sub .., binary_bufs_sub .., unary_bufs_sub .., unary_bufs_sub .., binary_bufs_sub .., binary_bufs_sub .., nullary_bufs_sub .., unary_bufs_sub .., unary_bufs_sub .., binary_bufs_sub ..⟩

set_option maxRecDepth 8192 in
theorem opsPick_bufs : (opsPick : List (HloOp τ sig (Elt F))).Forall fun op => op.bufs ⊆ tcRefs τ sig :=
  ⟨unary_bufs_sub .., reshape_bufs_sub .., unary_bufs_sub .., reshape_bufs_sub ..⟩

set_option maxRecDepth 8192 in
theorem opsRatio_bufs : (opsRatio : List (HloOp τ sig (Elt F))).Forall fun op => op.bufs ⊆ tcRefs τ sig :=
  ⟨binary_bufs_sub .., unary_bufs_sub .., reshape_bufs_sub .., binary_bufs_sub .., unary_bufs_sub .., unary_bufs_sub .., reshape_bufs_sub .., unary_bufs_sub .., reshape_bufs_sub .., binary_bufs_sub .., unary_bufs_sub .., reshape_bufs_sub .., binary_bufs_sub .., unary_bufs_sub .., unary_bufs_sub .., unary_bufs_sub .., reshape_bufs_sub .., unary_bufs_sub .., reshape_bufs_sub .., binary_bufs_sub .., unary_bufs_sub .., reshape_bufs_sub .., binary_bufs_sub .., unary_bufs_sub .., unary_bufs_sub .., unary_bufs_sub .., binary_bufs_sub .., binary_bufs_sub .., nullary_bufs_sub .., unary_bufs_sub .., binary_bufs_sub .., binary_bufs_sub ..⟩

set_option maxRecDepth 8192 in
theorem opsBest_bufs : (opsBest : List (HloOp τ sig (Elt F))).Forall fun op => op.bufs ⊆ tcRefs τ sig :=
  ⟨nullary_bufs_sub .., binary_bufs_sub .., nullary_bufs_sub .., nullary_bufs_sub .., nullary_bufs_sub .., quaternary_bufs_sub .., quaternary_bufs_sub ..⟩

set_option maxRecDepth 8192 in
theorem opsBox_bufs : (opsBox : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem opsLabel_bufs : (opsLabel : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

set_option maxRecDepth 8192 in
theorem opsOut_bufs : (opsOut : List (HloOp τ sig (Elt F))).Forall fun op => op.bufs ⊆ tcRefs τ sig :=
  ⟨unary_bufs_sub .., nullary_bufs_sub .., unary_bufs_sub .., binary_bufs_sub .., binary_bufs_sub .., unary_bufs_sub .., unary_bufs_sub .., nullary_bufs_sub .., unary_bufs_sub .., unary_bufs_sub .., unary_bufs_sub .., ternary_bufs_sub .., unary_bufs_sub .., ternary_bufs_sub .., nullary_bufs_sub .., unary_bufs_sub .., unary_bufs_sub .., ternary_bufs_sub .., ternary_bufs_sub .., binary_bufs_sub .., unary_bufs_sub ..⟩

/-- The buffers that `opsSign` writes. -/
abbrev opsSignW : List (Ref sig .tc) := [main_cst, main_v0, main_c, main_v1, main_cst_0, main_v2, main_v3, main_v4, main_v5, main_v6, main_v7, main_v8, main_c_1, main_v9, main_v10]
/-- The buffers that `opsSides` writes. -/
abbrev opsSidesW : List (Ref sig .tc) := [main_v11, main_v12, main_v13, main_v14, main_cst_2, main_v15, main_v16, main_v17, main_v18, main_v19, main_v20, main_v21, main_cst_3, main_v22, main_v23, main_v24, main_v25, main_v26, main_v27, main_v28, main_cst_4, main_v29, main_v30, main_v31, main_v32, main_v33, main_v34, main_v35, main_cst_5, main_v36, main_v37, main_v38, main_v39, main_v40, main_v41, main_v42, main_v43, main_v44, main_v45, main_cst_6, main_call0_v0, main_call0_v1, main_v46]
/-- The buffers that `opsPick` writes. -/
abbrev opsPickW : List (Ref sig .tc) := [main_v47, main_v48, main_v49, main_v50]
/-- The buffers that `opsRatio` writes. -/
abbrev opsRatioW : List (Ref sig .tc) := [main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_cst_7, main_v79, main_v80, main_v81]
/-- The buffers that `opsBest` writes. -/
abbrev opsBestW : List (Ref sig .tc) := [main_cst_8, main_v82, main_call1_v0, main_call1_cst, main_call1_c, main_call1_v1_0, main_v83]
/-- The buffers that `opsBox` writes. -/
abbrev opsBoxW : List (Ref sig .tc) := [main_c_9, main_v84, main_v85, main_c_10, main_v86, main_v87, main_v88, main_v89, main_v90]
/-- The buffers that `opsLabel` writes. -/
abbrev opsLabelW : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v91]
/-- The buffers that `opsOut` writes. -/
abbrev opsOutW : List (Ref sig .tc) := [main_v92, main_cst_11, main_v93, main_v94, main_v95, main_v96, main_v97, main_cst_12, main_call3_v0, main_call3_v1, main_call3_v2, main_v98, main_call4_v0, main_v99, main_c_13, main_call5_v0, main_call5_v1, main_v100, main_v101, main_v102, main_v103]

set_option maxRecDepth 8192 in
theorem opsSign_writes : (opsSign : List (HloOp τ sig (Elt F))).Forall fun op => op.writes ⊆ (opsSignW.map (Proc.devRef (τ := τ) .tc)).toFinset :=
  forall_writes_sub_of_map (W := opsSignW) rfl
set_option maxRecDepth 8192 in
theorem opsSides_writes : (opsSides : List (HloOp τ sig (Elt F))).Forall fun op => op.writes ⊆ (opsSidesW.map (Proc.devRef (τ := τ) .tc)).toFinset :=
  forall_writes_sub_of_map (W := opsSidesW) rfl
set_option maxRecDepth 8192 in
theorem opsPick_writes : (opsPick : List (HloOp τ sig (Elt F))).Forall fun op => op.writes ⊆ (opsPickW.map (Proc.devRef (τ := τ) .tc)).toFinset :=
  forall_writes_sub_of_map (W := opsPickW) rfl
set_option maxRecDepth 8192 in
theorem opsRatio_writes : (opsRatio : List (HloOp τ sig (Elt F))).Forall fun op => op.writes ⊆ (opsRatioW.map (Proc.devRef (τ := τ) .tc)).toFinset :=
  forall_writes_sub_of_map (W := opsRatioW) rfl
set_option maxRecDepth 8192 in
theorem opsBest_writes : (opsBest : List (HloOp τ sig (Elt F))).Forall fun op => op.writes ⊆ (opsBestW.map (Proc.devRef (τ := τ) .tc)).toFinset :=
  forall_writes_sub_of_map (W := opsBestW) rfl
set_option maxRecDepth 8192 in
theorem opsBox_writes : (opsBox : List (HloOp τ sig (Elt F))).Forall fun op => op.writes ⊆ (opsBoxW.map (Proc.devRef (τ := τ) .tc)).toFinset :=
  forall_writes_sub_of_map (W := opsBoxW) rfl
set_option maxRecDepth 8192 in
theorem opsLabel_writes : (opsLabel : List (HloOp τ sig (Elt F))).Forall fun op => op.writes ⊆ (opsLabelW.map (Proc.devRef (τ := τ) .tc)).toFinset :=
  forall_writes_sub_of_map (W := opsLabelW) rfl
set_option maxRecDepth 8192 in
theorem opsOut_writes : (opsOut : List (HloOp τ sig (Elt F))).Forall fun op => op.writes ⊆ (opsOutW.map (Proc.devRef (τ := τ) .tc)).toFinset :=
  forall_writes_sub_of_map (W := opsOutW) rfl

theorem ops_bufs : (ops : List (HloOp τ sig (Elt F))).Forall fun op => op.bufs ⊆ tcRefs τ sig := by
  simp only [ops, opsFirst, opsSecond, List.forall_append]
  exact ⟨⟨opsSign_bufs, opsSides_bufs, opsPick_bufs⟩,
    ⟨opsRatio_bufs, opsBest_bufs, opsBox_bufs, opsLabel_bufs, opsOut_bufs⟩, trivial⟩

set_option maxRecDepth 8192 in
/-- No operation makes a buffer. -/
theorem ops_fresh : ∀ op ∈ (ops : List (HloOp τ sig (Elt F))), op.fresh = ∅ :=
  List.forall_iff_forall_mem.mp (forall_fresh_of_map rfl)

/-- From any memory with zero counters every execution ends with each buffer at what the operations leave in it, and with
    zero counters. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (b : DevRef τ sig) :=
  run_seq no_scoped_refs no_scoped_sems defs main (fun _ => ops) main_eq (fun _ => ops_bufs) m ρ fun _ => ops_fresh

end Cert.Proof.Ref
-- ==== Proof.Ref.Frame.lean ====
/-
  The reference leaves its arguments as they were, and it has no semaphore.
-/
module

public import proofs.«01_k».proof.Proof.Ref.Ops

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- A buffer that no operation writes is left as it was. -/
theorem ops_keep (V : Valuation τ sig (Elt F)) (b : Ref sig .tc)
    (h : b ∉ opsSignW ++ (opsSidesW ++ (opsPickW ++ (opsRatioW ++ (opsBestW ++ (opsBoxW ++ (opsLabelW ++ opsOutW))))))) :
    after ops V (Proc.devRef .tc b) = V (Proc.devRef .tc b) := by
  simp only [List.mem_append, not_or] at h
  obtain ⟨h1, h2, h3, h4, h5, h6, h7, h8⟩ := h
  simp only [ops, opsFirst, opsSecond, after_append, after_nil]
  rw [after_of_writes_sub opsOut _ opsOut_writes h8, after_of_writes_sub opsLabel _ opsLabel_writes h7,
    after_of_writes_sub opsBox _ opsBox_writes h6, after_of_writes_sub opsBest _ opsBest_writes h5,
    after_of_writes_sub opsRatio _ opsRatio_writes h4, after_of_writes_sub opsPick _ opsPick_writes h3,
    after_of_writes_sub opsSides _ opsSides_writes h2, after_of_writes_sub opsSign _ opsSign_writes h1]

/-- No operation writes an argument. -/
theorem args_keep (V : Valuation τ sig (Elt F)) (b : Ref sig .tc)
    (h : b ∈ [main_arg0, main_arg1, main_arg2, main_arg3, main_arg4, main_arg5]) :
    after ops V (Proc.devRef .tc b) = V (Proc.devRef .tc b) :=
  ops_keep V b (by revert b; decide)

/-- The reference's frame claim. -/
theorem frame_reference : Cert.quiescent_ReferenceIdeal := fun m ρ _ =>
  (θ_run (Cert.ReferenceIdeal.defs (F := Ideal)) _ _).mono (fun r h => by
    refine ⟨fun d => ?_, sem_eq_zero_of_no_sems (by decide) r.2⟩
    have one : ∀ b : Ref sig .tc, b ∈ [main_arg0, main_arg1, main_arg2, main_arg3, main_arg4, main_arg5] →
        r.2.mem ((d.tc : Thread nD τ).loc b) = m ((d.tc : Thread nD τ).loc b) := fun b hb =>
      (h d b).trans (args_keep (launchContents m d) b hb)
    exact ⟨one _ (by decide), one _ (by decide), one _ (by decide), one _ (by decide), one _ (by decide), one _ (by decide)⟩)
    (run (F := Ideal) m ρ)

end Cert.Proof.Ref
-- ==== Proof.Ideal.Results.lean ====
/-
  The kernel's three results, element by element, in the arguments' elements.
-/
module

public import proofs.«01_k».proof.Proof.Ideal.Arrays
public import Idealize.ShloMosaic.Lib.StableHlo.ReadAt

@[expose] public section

noncomputable section

namespace Cert.Proof.Ideal

open Cert.KernelIdeal Cert.KernelIdeal.Gen Idealize.ShloMosaic Idealize.ShloMosaic.TcCoe Idealize.SL.Sem Idealize.ShloMosaic.StableHlo
open Cert.Proof.Values

variable {F : FTy → Type} [FloatOps F] (V : Valuation τ sig (Elt F))

/-- The column of a region. -/
def column (b : Fin 4) (n : Fin 20000) : Fin 81920 := ⟨b.val * 20480 + n.val, by omega⟩

theorem batch_column (b : Fin 4) (n : Fin 20000) : batch (column b n) = b := Fin.ext (by show (b.val * 20480 + n.val) / 20480 = b.val; omega)

theorem column_batch (b : Fin 4) (n : Fin 20000) : (column b n).val / 20480 = b.val := by show (b.val * 20480 + n.val) / 20480 = b.val; omega
theorem column_row (b : Fin 4) (n : Fin 20000) : (column b n).val % 20480 = n.val := by show (b.val * 20480 + n.val) % 20480 = n.val; omega

/-- A choice by whether a column is a region's, at a region's column. -/
theorem at_column {α : Type} (b : Fin 4) (n : Fin 20000) (f : Fin 4 → Fin 20000 → α) (z : α) :
    (if h : (column b n).val / 20480 < 4 ∧ (column b n).val % 20480 < 20000 then f ⟨(column b n).val / 20480, h.1⟩ ⟨(column b n).val % 20480, h.2⟩ else z) = f b n := by
  rw [dif_pos ⟨by rw [column_batch]; exact b.isLt, by rw [column_row]; exact n.isLt⟩]
  exact congrArg₂ f (Fin.ext (column_batch b n)) (Fin.ext (column_row b n))

/-- What the operations after the call take from its results. -/
theorem outBoxes_at (b : Fin 4) (n : Fin 20000) (c : Fin 7) :
    after opsPost V (main_v14 : DevRef τ sig) (ix3 b n c) = V (main_v11_0 : DevRef τ sig) (ix2 c (column b n)) := by
  unfold opsPost
  after_reads_at
  rfl

/-- A flat array read by batches, cut back to a batch's regions. -/
theorem cut_at {α : Type} (x : S81920.Idx → α) (b : Fin 4) (n : Fin 20000) :
    extractStridedSlice S4x20000 ![0, 0] (shapeCast S4x20480 x shapeCasts_S81920_S4x20480) slices_S4x20480_S4x20000_0_0 (ix2 b n) = x (ix1 (column b n)) := by
  have h : ∀ m : Fin 20480, shapeCast S4x20480 x shapeCasts_S81920_S4x20480 (ix2 b m) = x (ix1 ⟨b.val * 20480 + m.val, by omega⟩) := fun m => by
    rw [Pointwise.shapeCast_apply]
    refine congrArg x (Shape.reshapeEquiv_eq_of_vals _ _ _ (b.val * 20480 + m.val) (b.val * 20480 + m.val) ?_ ?_ rfl)
    · exact rowMajor_val1 (d := ![81920]) _
    · exact rowMajor_val2 (d := ![4, 20480]) _ 20480 rfl
  generalize shapeCast S4x20480 x shapeCasts_S81920_S4x20480 = y at h ⊢
  have e : extractStridedSlice S4x20000 ![0, 0] y slices_S4x20480_S4x20000_0_0 (ix2 b n) = y (ix2 b ⟨n.val, by omega⟩) := by pointwise
  exact e.trans (h _)

theorem outLabels_at (b : Fin 4) (n : Fin 20000) :
    after opsPost V (main_v16 : DevRef τ sig) (ix2 b n) = V (main_v11_1 : DevRef τ sig) (ix1 (column b n)) := by
  unfold opsPost
  after_reads_simp
  exact cut_at _ b n

theorem outMasks_at (b : Fin 4) (n : Fin 20000) :
    after opsPost V (main_v18 : DevRef τ sig) (ix2 b n) = V (main_v11_2 : DevRef τ sig) (ix1 (column b n)) := by
  unfold opsPost
  after_reads_simp
  exact cut_at _ b n

/-- What the operations before the call make of the arguments. -/
theorem regions_at (b : Fin 4) (n : Fin 20000) (c : Fin 6) :
    after opsPre V (main_v3 : DevRef τ sig) (ix2 c (column b n)) = V (main_arg0 : DevRef τ sig) (ix3 b n ⟨c.val, by omega⟩) := by
  unfold opsPre
  after_reads_at
  exact at_column b n (fun b n => V (main_arg0 : DevRef τ sig) (ix3 b n ⟨c.val, by omega⟩)) _

theorem assigned_at (b : Fin 4) (n : Fin 20000) (c : Fin 7) :
    after opsPre V (main_v6 : DevRef τ sig) (ix2 c (column b n)) = V (main_arg3 : DevRef τ sig) (ix3 b n c) := by
  unfold opsPre
  after_reads_at
  exact at_column b n (fun b n => V (main_arg3 : DevRef τ sig) (ix3 b n c)) _

theorem stageOne_at (b : Fin 4) (n : Fin 20000) :
    after opsPre V (main_v8 : DevRef τ sig) (ix1 (column b n)) = V (main_arg4 : DevRef τ sig) (ix2 b n) := by
  unfold opsPre
  after_reads_at
  exact at_column b n (fun b n => V (main_arg4 : DevRef τ sig) (ix2 b n)) _

theorem truths_at (b : Fin 4) (g : Fin 128) (c : Fin 7) :
    after opsPre V (main_v10 : DevRef τ sig) (ix2 b ⟨c.val * 128 + g.val, by omega⟩) = V (main_arg1 : DevRef τ sig) (ix3 b g c) := by
  unfold opsPre
  after_reads_at

/-! ## The three results -/

section

variable (m : (ℓ : Loc nD τ sig) → Buf (Elt F) ℓ) (d : Dev nD)

/-- A region's centre and extents, its box and its label from stage one, and a batch's ground truths. -/
def region (b : Fin 4) (n : Fin 20000) : Fin 6 → F .f32 := fun c => V0 m d (main_arg0 : DevRef τ sig) (ix3 b n ⟨c.val, by omega⟩)
def firstBox (b : Fin 4) (n : Fin 20000) : Fin 7 → F .f32 := fun c => V0 m d (main_arg3 : DevRef τ sig) (ix3 b n c)
def stage (b : Fin 4) (n : Fin 20000) : BitVec 32 := V0 m d (main_arg4 : DevRef τ sig) (ix2 b n)
def truth (b : Fin 4) : Fin 128 → Fin 7 → F .f32 := fun g c => V0 m d (main_arg1 : DevRef τ sig) (ix3 b g c)
def truthLabel (b : Fin 4) : Fin 128 → BitVec 32 := fun g => V0 m d (main_arg2 : DevRef τ sig) (ix2 b g)

theorem col_regions (b : Fin 4) (n : Fin 20000) : col (V1 m d (at' main_v3)) (column b n) = region m d b n :=
  funext fun c => regions_at (V0 m d) b n c

theorem col_assigned (b : Fin 4) (n : Fin 20000) : col (V1 m d (at' main_v6)) (column b n) = firstBox m d b n :=
  funext fun c => assigned_at (V0 m d) b n c

theorem boxes_truths (b : Fin 4) : gtBox (brow (V1 m d (at' main_v10)) b) = truth m d b :=
  funext fun g => funext fun c => truths_at (V0 m d) b g c

theorem labels_truths (b : Fin 4) : (fun k => brow (V1 m d (at' main_arg2)) b (ix1 k)) = truthLabel m d b :=
  funext fun g => congrFun (pre_keeps (V0 m d) main_arg2 (by decide)) (ix2 b g)

/-- The assigned boxes. -/
theorem boxes_value (b : Fin 4) (n : Fin 20000) (c : Fin 7) :
    V3 m d (main_v14 : DevRef τ sig) (ix3 b n c) = outBox (region m d b n) (firstBox m d b n) (stage m d b n) (truth m d b) c := by
  unfold V3
  refine (outBoxes_at _ b n c).trans ((congrFun (V2_boxes m d) (ix2 c (column b n))).trans ?_)
  show outBox (col (V1 m d (at' main_v3)) (column b n)) (col (V1 m d (at' main_v6)) (column b n)) (V1 m d (at' main_v8) (ix1 (column b n)))
    (gtBox (brow (V1 m d (at' main_v10)) (batch (column b n)))) c = _
  rw [col_regions, col_assigned, batch_column, boxes_truths]
  exact congrArg (fun l => outBox _ _ l _ c) (stageOne_at (V0 m d) b n)

/-- The assigned labels. -/
theorem labels_value (b : Fin 4) (n : Fin 20000) :
    V3 m d (main_v16 : DevRef τ sig) (ix2 b n) = outLab (region m d b n) (stage m d b n) (truth m d b) (truthLabel m d b) := by
  unfold V3
  refine (outLabels_at _ b n).trans ((congrFun (V2_labels m d) (ix1 (column b n))).trans ?_)
  show outLab (col (V1 m d (at' main_v3)) (column b n)) (V1 m d (at' main_v8) (ix1 (column b n)))
    (gtBox (brow (V1 m d (at' main_v10)) (batch (column b n)))) (fun k => brow (V1 m d (at' main_arg2)) (batch (column b n)) (ix1 k)) = _
  rw [col_regions, batch_column, boxes_truths, labels_truths]
  exact congrArg (fun l => outLab _ l _ _) (stageOne_at (V0 m d) b n)

/-- The masks. -/
theorem masks_value (b : Fin 4) (n : Fin 20000) :
    V3 m d (main_v18 : DevRef τ sig) (ix2 b n) = outMask (region m d b n) (stage m d b n) (truth m d b) := by
  unfold V3
  refine (outMasks_at _ b n).trans ((congrFun (V2_masks m d) (ix1 (column b n))).trans ?_)
  show outMask (col (V1 m d (at' main_v3)) (column b n)) (V1 m d (at' main_v8) (ix1 (column b n)))
    (gtBox (brow (V1 m d (at' main_v10)) (batch (column b n)))) = _
  rw [col_regions, batch_column, boxes_truths]
  exact congrArg (fun l => outMask _ l _) (stageOne_at (V0 m d) b n)

end

end Cert.Proof.Ideal

end
-- ==== Proof.Ref.Reads.lean ====
/-
  What each list of the reference's operations leaves, read at an index.
-/
module

public import proofs.«01_k».proof.Proof.Ref.Ops
public import proofs.«01_k».proof.Proof.Values
public import Idealize.ShloMosaic.Lib.StableHlo.ReadAt
public import Idealize.ShloMosaic.Lib.Routing.OpsSet
public import Idealize.ShloMosaic.Lib.Routing.OpsPair
public import Idealize.ShloMosaic.Lib.ReduceAll

@[expose] public section

noncomputable section

namespace Cert.Proof.Ref

open Cert.ReferenceIdeal Cert.ReferenceIdeal.Gen Idealize.ShloMosaic Idealize.ShloMosaic.TcCoe Idealize.SL.Sem Idealize.ShloMosaic.StableHlo
open Cert.Proof.Values

variable {F : FTy → Type} [FloatOps F] (V : Valuation τ sig (Elt F))

/-- `main_v10`: whether a region is positive at stage one. -/
theorem pos_at (b : Fin 4) (n : Fin 20000) :
    after opsSign V (main_v10 : DevRef τ sig) (ix2 b n) = pos (V (main_arg4 : DevRef τ sig) (ix2 b n)) := by
  after_reads_at
  rfl

/-- The factor of a coordinate: minus one for the yaw, one for the others. -/
def flip (c : Fin 7) : F .f32 := if c = 6 then Scalar.ofBits .f32 0xBF800000#32 else Scalar.ofBits .f32 0x3F800000#32

/-- The vector of factors: ones, of which the seventh was set to minus one. -/
theorem scatter_flip (c : Fin 7) :
    Host.scatter scatter_S7_S1_S__n_0_0_0 (fun _ b => b) (broadcastInDim S7 ![] bcast_S_S7 (constant S_ .f32 0x3F800000#32 : FVec F S_ .f32))
      (broadcastInDim S1 ![] bcast_S_S1 (constantI S_ 32 6#32)) (constant S_ .f32 0xBF800000#32) (ix1 c) = flip (F := F) c := by
  have h : ∀ k : S_.Idx, scatter_S7_S1_S__n_0_0_0.resultIdx? k (broadcastInDim S1 ![] bcast_S_S1 (constantI S_ 32 6#32)) = some (ix1 c) ↔ c = 6 := by
    intro k
    refine (Routing.resultIdx?_ix1 scatter_S7_S1_S__n_0_0_0 k _ c).trans ?_
    have hs : scatter_S7_S1_S__n_0_0_0.start k (broadcastInDim S1 ![] bcast_S_S1 (constantI S_ 32 6#32)) 0 = 6 := rfl
    have hw : scatter_S7_S1_S__n_0_0_0.window k 0 = 0 := rfl
    rw [hs, hw]
    exact ⟨fun e => Fin.ext (by simpa using Int.ofNat.inj (by simpa using e.symm)), fun e => by subst e; rfl⟩
  by_cases hc : c = 6
  · exact (Routing.scatter_set_hit _ _ _ _ _ (Scalar.ofBits .f32 0xBF800000#32) (fun _ _ => rfl) ix0 ((h ix0).2 hc)).trans (if_pos hc).symm
  · exact (Routing.scatter_set_miss _ _ _ _ _ fun k e => hc ((h k).1 e)).trans (if_neg hc).symm

/-- `main_v5`: the ground-truth boxes, the yaw flipped. -/
theorem flipped_at (b : Fin 4) (g : Fin 128) (c : Fin 7) :
    after opsSign V (main_v5 : DevRef τ sig) (ix3 b g c) = FloatOps.mulf (V (main_arg1 : DevRef τ sig) (ix3 b g c)) (flip c) := by
  after_reads_at
  rw [scatter_flip]

/-- `main_v8`: the boxes assigned at stage one, the yaw flipped. -/
theorem assigned_at (b : Fin 4) (n : Fin 20000) (c : Fin 7) :
    after opsSign V (main_v8 : DevRef τ sig) (ix3 b n c) = FloatOps.mulf (V (main_arg3 : DevRef τ sig) (ix3 b n c)) (flip c) := by
  after_reads_at
  rw [scatter_flip]

/-- `main_v46`: the overlap of the region's and the box's `k`-th intervals. -/
theorem sides_at (b : Fin 4) (n : Fin 20000) (g : Fin 128) (k : Fin 3) :
    after opsSides V (main_v46 : DevRef τ sig) (ix4 b n g k) = FloatOps.maximumf zero (FloatOps.subf
      (FloatOps.minimumf (hi (V (main_arg0 : DevRef τ sig) (ix3 b n ⟨k.val, by omega⟩)) (V (main_arg0 : DevRef τ sig) (ix3 b n ⟨3 + k.val, by omega⟩)))
        (hi (V (main_v5 : DevRef τ sig) (ix3 b g ⟨k.val, by omega⟩)) (V (main_v5 : DevRef τ sig) (ix3 b g ⟨3 + k.val, by omega⟩))))
      (FloatOps.maximumf (lo (V (main_arg0 : DevRef τ sig) (ix3 b n ⟨k.val, by omega⟩)) (V (main_arg0 : DevRef τ sig) (ix3 b n ⟨3 + k.val, by omega⟩)))
        (lo (V (main_v5 : DevRef τ sig) (ix3 b g ⟨k.val, by omega⟩)) (V (main_v5 : DevRef τ sig) (ix3 b g ⟨3 + k.val, by omega⟩))))) := by
  after_reads_at
  rfl

theorem pick0_at (b : Fin 4) (n : Fin 20000) (g : Fin 128) :
    after opsPick V (main_v48 : DevRef τ sig) (ix3 b n g) = V (main_v46 : DevRef τ sig) (ix4 b n g 0) := by
  after_reads_at

theorem pick1_at (b : Fin 4) (n : Fin 20000) (g : Fin 128) :
    after opsPick V (main_v50 : DevRef τ sig) (ix3 b n g) = V (main_v46 : DevRef τ sig) (ix4 b n g 1) := by
  after_reads_at

/-- `main_v81`: intersection over union. -/
theorem ratio_at (b : Fin 4) (n : Fin 20000) (g : Fin 128) :
    after opsRatio V (main_v81 : DevRef τ sig) (ix3 b n g)
      = FloatOps.hostDivf (FloatOps.mulf (FloatOps.mulf (V (main_v48 : DevRef τ sig) (ix3 b n g)) (V (main_v50 : DevRef τ sig) (ix3 b n g))) (V (main_v46 : DevRef τ sig) (ix4 b n g 2)))
        (FloatOps.addf (FloatOps.subf (FloatOps.addf
            (vol (V (main_arg0 : DevRef τ sig) (ix3 b n 3)) (V (main_arg0 : DevRef τ sig) (ix3 b n 4)) (V (main_arg0 : DevRef τ sig) (ix3 b n 5)))
            (vol (V (main_v5 : DevRef τ sig) (ix3 b g 3)) (V (main_v5 : DevRef τ sig) (ix3 b g 4)) (V (main_v5 : DevRef τ sig) (ix3 b g 5))))
          (FloatOps.mulf (FloatOps.mulf (V (main_v48 : DevRef τ sig) (ix3 b n g)) (V (main_v50 : DevRef τ sig) (ix3 b n g))) (V (main_v46 : DevRef τ sig) (ix4 b n g 2)))) eps) := by
  after_reads_at
  rfl

/-- `main_v82`: the reduction by maximum. -/
theorem max_at (b : Fin 4) (n : Fin 20000) :
    after opsBest V (main_v82 : DevRef τ sig) (ix2 b n)
      = Host.reduce FloatOps.maximumf (V (main_v81 : DevRef τ sig)) (constant S_ .f32 0xFF800000#32) reducesTo_S4x20000x128_S4x20000_d2 h_S_ (ix2 b n) := by
  after_reads_at

/-- `main_v83`: the reduction to the place of the maximum. -/
theorem place_at (b : Fin 4) (n : Fin 20000) :
    after opsBest V (main_v83 : DevRef τ sig) (ix2 b n)
      = (Host.argReduce reducer_argmax_f32_i32 (V (main_v81 : DevRef τ sig)) (iotaInDim S4x20000x128 32 2) (constant S_ .f32 0xFF800000#32)
          (constantI S_ 32 0#32) reducesTo_S4x20000x128_S4x20000_d2 h_S_ (ix2 b n)).2 := by
  after_reads_at

/-- A place's word, read as a signed number and held within the table, is the place. -/
theorem place_start (g : Fin 128) : min (BitVec.ofNat 32 g.val).toInt.toNat (128 - 1) = g.val := by
  have hg := g.isLt
  have h : (BitVec.ofNat 32 g.val).toInt = (g.val : Int) := by
    rw [BitVec.toInt_eq_toNat_of_lt (by rw [BitVec.toNat_ofNat]; omega), BitVec.toNat_ofNat]; omega
  rw [h]; omega

/-- The gather of whole boxes, read where the place of the box is known. -/
theorem gather_box {α : Type} (x : S4x128x7.Idx → α) (idx : IVec S4x20000x1 32) (b : Fin 4) (n : Fin 20000) (c : Fin 7) (g : Fin 128)
    (hg : idx (ix3 b n 0) = BitVec.ofNat 32 g.val) :
    Host.gather gather_S4x128x7_S4x20000x1_S4x20000x7_2_1_0_0_1_2_117 x idx (ix3 b n c) = x (ix3 b g c) := by
  unfold Host.gather
  congr 1
  funext a
  refine Fin.ext ?_
  match a with
  | ⟨0, _⟩ => exact Nat.zero_add _
  | ⟨1, _⟩ =>
    show min (idx (gather_S4x128x7_S4x20000x1_S4x20000x7_2_1_0_0_1_2_117.siIdx (ix3 b n c) ⟨0, by decide⟩)).toInt.toNat (128 - 1) + 0 + 0 = g.val
    rw [show gather_S4x128x7_S4x20000x1_S4x20000x7_2_1_0_0_1_2_117.siIdx (ix3 b n c) ⟨0, by decide⟩ = ix3 b n 0 from by
      funext e; match e with | ⟨0, _⟩ => rfl | ⟨1, _⟩ => rfl | ⟨2, _⟩ => rfl, hg]
    exact place_start g
  | ⟨2, _⟩ => exact Nat.zero_add _

/-- The gather of labels, read where the place of the label is known. -/
theorem gather_label {α : Type} (x : S4x128.Idx → α) (idx : IVec S4x20000x1 32) (b : Fin 4) (n : Fin 20000) (g : Fin 128)
    (hg : idx (ix3 b n 0) = BitVec.ofNat 32 g.val) :
    Host.gather gather_S4x128_S4x20000x1_S4x20000_n_1_0_0_1_2_11 x idx (ix2 b n) = x (ix2 b g) := by
  unfold Host.gather
  congr 1
  funext a
  refine Fin.ext ?_
  match a with
  | ⟨0, _⟩ => exact Nat.zero_add _
  | ⟨1, _⟩ =>
    show min (idx (gather_S4x128_S4x20000x1_S4x20000_n_1_0_0_1_2_11.siIdx (ix2 b n) ⟨0, by decide⟩)).toInt.toNat (128 - 1) + 0 + 0 = g.val
    rw [show gather_S4x128_S4x20000x1_S4x20000_n_1_0_0_1_2_11.siIdx (ix2 b n) ⟨0, by decide⟩ = ix3 b n 0 from by
      funext e; match e with | ⟨0, _⟩ => rfl | ⟨1, _⟩ => rfl | ⟨2, _⟩ => rfl, hg]
    exact place_start g

/-- A place's word is not negative, so the wrap-around of negative places leaves it; and it passes the check of its range. -/
theorem place_wrap (w : BitVec 32) (g : Fin 128) (hw : w = BitVec.ofNat 32 g.val) :
    Scalar.select (IntOp.cmpi .slt w 0#32) (IntOp.addi w 128#32) w = w := by
  subst hw; revert g; decide +kernel

theorem place_range (w : BitVec 32) (g : Fin 128) (hw : w = BitVec.ofNat 32 g.val) :
    IntOp.andi (IntOp.cmpi .sge w 0#32) (IntOp.cmpi .sle w 127#32) = 1#1 := by
  subst hw; revert g; decide +kernel

/-- `main_v90`: the box at the known place. -/
theorem box_at (b : Fin 4) (n : Fin 20000) (c : Fin 7) (g : Fin 128) (hg : V (main_v83 : DevRef τ sig) (ix2 b n) = BitVec.ofNat 32 g.val) :
    after opsBox V (main_v90 : DevRef τ sig) (ix3 b n c) = V (main_v5 : DevRef τ sig) (ix3 b g c) := by
  after_reads_at
  refine gather_box _ _ b n c g ?_
  pointwise [select, cmpi, addi]
  exact (place_wrap _ g hg).trans hg

/-- `main_v91`: the label at the known place. -/
theorem label_at (b : Fin 4) (n : Fin 20000) (G : Fin 4 → Fin 20000 → Fin 128)
    (hG : ∀ b n, V (main_v83 : DevRef τ sig) (ix2 b n) = BitVec.ofNat 32 (G b n).val) :
    after opsLabel V (main_v91 : DevRef τ sig) (ix2 b n) = V (main_arg2 : DevRef τ sig) (ix2 b (G b n)) := by
  after_reads_at
  rw [Host.reduce_andi_one _ _ _ _ _ rfl fun i => ?_, gather_label _ _ b n (G b n) ((place_wrap _ _ (hG b n)).trans (hG b n))]
  · rfl
  · exact place_range _ (G (i 0) (i 1)) ((place_wrap _ _ (hG (i 0) (i 1))).trans (hG (i 0) (i 1)))

/-- `main_v99`: the assigned boxes. -/
theorem outBox_at (b : Fin 4) (n : Fin 20000) (c : Fin 7) :
    after opsOut V (main_v99 : DevRef τ sig) (ix3 b n c) = pick (V (main_v10 : DevRef τ sig) (ix2 b n))
      (IntOp.andi (~~~V (main_v10 : DevRef τ sig) (ix2 b n)) (FloatOps.cmpf .oge (V (main_v82 : DevRef τ sig) (ix2 b n)) thr))
      (V (main_v8 : DevRef τ sig) (ix3 b n c)) (V (main_v90 : DevRef τ sig) (ix3 b n c)) zero := by
  after_reads_at
  rfl

/-- `main_v101`: the assigned labels. -/
theorem outLab_at (b : Fin 4) (n : Fin 20000) :
    after opsOut V (main_v101 : DevRef τ sig) (ix2 b n) = pick (V (main_v10 : DevRef τ sig) (ix2 b n))
      (IntOp.andi (~~~V (main_v10 : DevRef τ sig) (ix2 b n)) (FloatOps.cmpf .oge (V (main_v82 : DevRef τ sig) (ix2 b n)) thr))
      (V (main_arg4 : DevRef τ sig) (ix2 b n)) (V (main_v91 : DevRef τ sig) (ix2 b n)) 11#32 := by
  after_reads_at
  rfl

/-- `main_v103`: the masks. -/
theorem outMask_at (b : Fin 4) (n : Fin 20000) :
    after opsOut V (main_v103 : DevRef τ sig) (ix2 b n) = FloatOps.uitofp .f32 (IntOp.ori (V (main_v10 : DevRef τ sig) (ix2 b n))
      (IntOp.andi (~~~V (main_v10 : DevRef τ sig) (ix2 b n)) (FloatOps.cmpf .oge (V (main_v82 : DevRef τ sig) (ix2 b n)) thr))) := by
  after_reads_at
  rfl

end Cert.Proof.Ref
-- ==== Proof.Order.lean ====
/-
  The two ways of finding the best of 128 extended reals agree: the scan from minus one that keeps the first greatest
  value, and the reduction to the greatest value's least place. They part only where no value exceeds minus one, which
  the threshold tells apart.
-/
module

public import proofs.«01_k».proof.Proof.Values
public import Idealize.ShloMosaic.Lib.IdealHost

@[expose] public section

noncomputable section

namespace Cert.Proof.Values

open Idealize.ShloMosaic

/-- `g` is the first place at which `v` is greatest. -/
def First (v : Fin 128 → EReal) (g : Fin 128) : Prop := (∀ k, v k ≤ v g) ∧ ∀ k, k < g → v k < v g

/-- There is only one such place. -/
theorem First.unique {v : Fin 128 → EReal} {g h : Fin 128} (hg : First v g) (hh : First v h) : g = h := by
  rcases lt_trichotomy g h with l | e | l
  · exact absurd (hg.1 h) (not_le.2 (hh.2 g l))
  · exact e
  · exact absurd (hh.1 g) (not_le.2 (hg.2 h l))

theorem cmp_ogt (a b : EReal) : Ideal.cmp .ogt a b = 1#1 ↔ b < a := by
  unfold Ideal.cmp
  by_cases h : b < a <;> simp [h]

theorem cmp_oge (a b : EReal) : Ideal.cmp .oge a b = 1#1 ↔ b ≤ a := by
  unfold Ideal.cmp
  by_cases h : b ≤ a <;> simp [h]

/-- The scan's start is minus one. -/
theorem neg1_eq : (neg1 : Ideal .f32) = ((-1 : ℝ) : EReal) := by
  show Ideal.ofBits .f32 0xBF800000#32 = _
  simp [Ideal.ofBits, Ideal.ieee, -EReal.coe_mul, -EReal.coe_neg]; norm_num

/-- The threshold is not negative. -/
theorem thr_nonneg : (0 : EReal) ≤ (thr : Ideal .f32) := by
  show (0 : EReal) ≤ Ideal.ofBits .f32 0x3E99999A#32
  simp [Ideal.ofBits, Ideal.ieee, -EReal.coe_mul]

theorem neg1_lt_thr : (neg1 : Ideal .f32) < (thr : Ideal .f32) := by
  refine lt_of_lt_of_le ?_ thr_nonneg
  rw [neg1_eq]
  exact_mod_cast (by norm_num : (-1 : ℝ) < 0)

/-- What the scan of the first `n` values has found. -/
def Found (v : Fin 128 → Ideal .f32) (n : ℕ) (p : Ideal .f32 × Fin 128) : Prop :=
  (∀ k : Fin 128, k.val < n → (v k : EReal) ≤ p.1) ∧
    (p.1 = neg1 ∨ (p.2.val < n ∧ p.1 = v p.2 ∧ ∀ k : Fin 128, k < p.2 → (v k : EReal) < v p.2))

theorem found (v : Fin 128 → Ideal .f32) : ∀ n, n ≤ 128 → Found v n (scan v n)
  | 0, _ => ⟨fun _ h => absurd h (Nat.not_lt_zero _), Or.inl rfl⟩
  | n + 1, hn => by
    obtain ⟨hle, hat⟩ := found v n (by omega)
    have hlt : n < 128 := by omega
    unfold scan
    rw [dif_pos hlt]
    unfold scanStep
    by_cases h : (scan v n).1 < (v ⟨n, hlt⟩ : EReal)
    · rw [if_pos (show FloatOps.cmpf .ogt (v ⟨n, hlt⟩) (scan v n).1 = 1#1 from (cmp_ogt _ _).2 h)]
      refine ⟨fun k hk => ?_, Or.inr ⟨by simp, rfl, fun k hk => lt_of_le_of_lt (hle k hk) h⟩⟩
      rcases Nat.lt_succ_iff_lt_or_eq.1 hk with l | e
      · exact le_of_lt (lt_of_le_of_lt (hle k l) h)
      · exact le_of_eq (congrArg v (Fin.ext e))
    · rw [if_neg (show ¬FloatOps.cmpf .ogt (v ⟨n, hlt⟩) (scan v n).1 = 1#1 from fun e => h ((cmp_ogt _ _).1 e))]
      refine ⟨fun k hk => ?_, hat.imp id fun q => ⟨by omega, q.2⟩⟩
      rcases Nat.lt_succ_iff_lt_or_eq.1 hk with l | e
      · exact hle k l
      · exact le_trans (le_of_eq (congrArg v (Fin.ext e))) (not_lt.1 h)

/-- The scan reaches the threshold exactly if the greatest value does, and then its place is the greatest's first. -/
theorem scan_first (v : Fin 128 → Ideal .f32) (g : Fin 128) (hg : First v g) :
    FloatOps.cmpf .oge (scan v 128).1 thr = FloatOps.cmpf .oge (v g) (thr : Ideal .f32)
      ∧ (FloatOps.cmpf .oge (v g) (thr : Ideal .f32) = 1#1 → (scan v 128).2 = g) := by
  obtain ⟨hle, hat⟩ := found v 128 le_rfl
  rcases hat with e | ⟨_, e, hf⟩
  · have hv : (v g : EReal) < (thr : Ideal .f32) := lt_of_le_of_lt (le_trans (hle g g.isLt) (le_of_eq e)) neg1_lt_thr
    have h0 : ¬Ideal.cmp .oge (v g) (thr : Ideal .f32) = 1#1 := fun h => absurd ((cmp_oge _ _).1 h) (not_le.2 hv)
    have h1 : ¬Ideal.cmp .oge (scan v 128).1 (thr : Ideal .f32) = 1#1 := fun h => absurd ((cmp_oge _ _).1 h) (not_le.2 (e ▸ neg1_lt_thr))
    refine ⟨?_, fun h => absurd h h0⟩
    have two : ∀ x y : BitVec 1, ¬x = 1#1 → ¬y = 1#1 → x = y := by decide
    exact two _ _ h1 h0
  · have hs : First v (scan v 128).2 := ⟨fun k => e ▸ hle k k.isLt, hf⟩
    have hp := hs.unique hg
    exact ⟨by rw [e, hp], fun _ => hp⟩

end Cert.Proof.Values

end
-- ==== Proof.Ref.Fold.lean ====
/-
  The reference's two reductions over the 128 boxes, at the extended reals: the greatest value, and the first place that
  has it.
-/
module

public import proofs.«01_k».proof.Proof.Ref.Ops
public import proofs.«01_k».proof.Proof.Order
public import Idealize.ShloMosaic.PureOps.Ideal.Laws
public import Idealize.ShloMosaic.Lib.Pointwise

@[expose] public section

noncomputable section

namespace Cert.Proof.Ref

open Cert.ReferenceIdeal Cert.ReferenceIdeal.Gen Idealize.ShloMosaic
open Cert.Proof.Values

/-- A pair that a reduction to a place prefers to another, or that is level with it: a greater value, or the same value
    at a place not after the other's. -/
def Better (a b : EReal × BitVec 32) : Prop := b.1 < a.1 ∨ (a.1 = b.1 ∧ a.2.toInt ≤ b.2.toInt)

theorem Better.refl (a : EReal × BitVec 32) : Better a a := Or.inr ⟨rfl, le_rfl⟩

theorem Better.trans {a b c : EReal × BitVec 32} (h : Better a b) (k : Better b c) : Better a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

/-- The reduction's body returns one of its two pairs, and one at least as good as both. -/
theorem reducer_spec (a b : Ideal .f32 × BitVec 32) :
    (reducer_argmax_f32_i32 a b = a ∨ reducer_argmax_f32_i32 a b = b)
      ∧ Better (reducer_argmax_f32_i32 a b) a ∧ Better (reducer_argmax_f32_i32 a b) b := by
  obtain ⟨x, i⟩ := a
  obtain ⟨y, j⟩ := b
  have hne : Ideal.cmp .une x x = 0#1 := by unfold Ideal.cmp; simp
  have key : reducer_argmax_f32_i32 (F := Ideal) (x, i) (y, j) = (Scalar.select (IntOp.ori (Ideal.cmp .ogt x y) (Ideal.cmp .une x x)) x y,
      Scalar.select (IntOp.ori (IntOp.ori (Ideal.cmp .ogt x y) (Ideal.cmp .une x x)) (IntOp.andi (Ideal.cmp .oeq x y) (IntOp.cmpi .slt i j))) i j) := rfl
  rw [key, hne]
  rcases lt_trichotomy (x : EReal) (y : EReal) with h | h | h
  · have h1 : Ideal.cmp .ogt x y = 0#1 := by unfold Ideal.cmp; simp [not_lt.2 h.le]
    have h2 : Ideal.cmp .oeq x y = 0#1 := by unfold Ideal.cmp; simp [h.ne]
    have e : (Scalar.select (IntOp.ori (Ideal.cmp .ogt x y) 0#1) x y,
      Scalar.select (IntOp.ori (IntOp.ori (Ideal.cmp .ogt x y) 0#1) (IntOp.andi (Ideal.cmp .oeq x y) (IntOp.cmpi .slt i j))) i j) = (y, j) := by
      rw [h1, h2]
      have : IntOp.andi 0#1 (IntOp.cmpi .slt i j) = 0#1 := BitVec.zero_and
      rw [this]; rfl
    rw [e]
    exact ⟨Or.inr rfl, Or.inl h, Better.refl _⟩
  · have h1 : Ideal.cmp .ogt x y = 0#1 := by unfold Ideal.cmp; simp [h]
    have h2 : Ideal.cmp .oeq x y = 1#1 := by unfold Ideal.cmp; simp [h]
    rw [h1, h2]
    by_cases l : i.toInt < j.toInt
    · have h3 : IntOp.cmpi .slt i j = 1#1 := by simp [IntOp.cmpi, BitVec.slt, l]
      rw [h3]
      subst h
      exact ⟨Or.inl rfl, Better.refl _, Or.inr ⟨rfl, l.le⟩⟩
    · have h3 : IntOp.cmpi .slt i j = 0#1 := by simp [IntOp.cmpi, BitVec.slt, l]
      rw [h3]
      subst h
      exact ⟨Or.inr rfl, Or.inr ⟨rfl, not_lt.1 l⟩, Better.refl _⟩
  · have h1 : Ideal.cmp .ogt x y = 1#1 := (cmp_ogt _ _).2 h
    have e : (Scalar.select (IntOp.ori (Ideal.cmp .ogt x y) 0#1) x y,
      Scalar.select (IntOp.ori (IntOp.ori (Ideal.cmp .ogt x y) 0#1) (IntOp.andi (Ideal.cmp .oeq x y) (IntOp.cmpi .slt i j))) i j) = (x, i) := by
      rw [h1]
      have : IntOp.ori (IntOp.ori 1#1 0#1) (IntOp.andi (Ideal.cmp .oeq x y) (IntOp.cmpi .slt i j)) = 1#1 := by
        generalize IntOp.andi (Ideal.cmp .oeq x y) (IntOp.cmpi .slt i j) = w; revert w; decide
      rw [this]; rfl
    rw [e]
    exact ⟨Or.inl rfl, Better.refl _, Or.inl h⟩

/-- A reduction to a place returns one of the pairs it runs over, and one at least as good as each. -/
theorem fold_spec (l : List (Ideal .f32 × BitVec 32)) (p : Ideal .f32 × BitVec 32) :
    l.foldl reducer_argmax_f32_i32 p ∈ p :: l ∧ ∀ q ∈ p :: l, Better (l.foldl (reducer_argmax_f32_i32 (F := Ideal)) p) q := by
  induction l generalizing p with
  | nil => exact ⟨List.mem_singleton.2 rfl, fun q hq => List.mem_singleton.1 hq ▸ Better.refl _⟩
  | cons a l ih =>
    obtain ⟨hm, hb⟩ := ih (reducer_argmax_f32_i32 p a)
    obtain ⟨hc, hp, ha⟩ := reducer_spec p a
    rw [List.foldl_cons]
    refine ⟨?_, fun q hq => ?_⟩
    · rcases List.mem_cons.1 hm with e | e
      · rw [e]
        rcases hc with c | c <;> rw [c]
        · exact List.mem_cons_self
        · exact List.mem_cons_of_mem _ List.mem_cons_self
      · exact List.mem_cons_of_mem _ (List.mem_cons_of_mem _ e)
    · have h0 := hb _ List.mem_cons_self
      rcases List.mem_cons.1 hq with e | e
      · exact e ▸ h0.trans hp
      · rcases List.mem_cons.1 e with e | e
        · exact e ▸ h0.trans ha
        · exact hb q (List.mem_cons_of_mem _ e)

/-- The values of the boxes at a region, of an array that has one for each. -/
abbrev row {α : Type} (x : S4x20000x128.Idx → α) (b : Fin 4) (n : Fin 20000) : Fin 128 → α := fun g => x (ix3 b n g)

theorem red : S4x20000x128.Reduces [2] S4x20000 := by decide

/-- The indices that the reduction takes to a region are that region's. -/
theorem drop_iff (i : S4x20000x128.Idx) (b : Fin 4) (n : Fin 20000) :
    reducesTo_S4x20000x128_S4x20000_d2.drop i = ix2 b n ↔ ∃ g, i = ix3 b n g := by
  rw [Shape.ReducesTo.drop_eq_drop reducesTo_S4x20000x128_S4x20000_d2 red]
  have hl : ∀ g : Fin 128, red.lift (ix2 b n) g = ix3 b n g := fun g => by
    funext a
    match a with
    | ⟨0, _⟩ => rfl
    | ⟨1, _⟩ => rfl
    | ⟨2, _⟩ => rfl
  constructor
  · intro h
    exact ⟨i 2, ((red.lift_drop i).symm.trans (congrArg (fun j => red.lift j (i 2)) h)).trans (hl (i 2))⟩
  · rintro ⟨g, rfl⟩
    rw [← hl]; exact red.drop_lift _ _

/-- The pairs that the reduction to a place runs over at a region: each box's value, and its place. -/
theorem mem_fiber (x : S4x20000x128.Idx → Ideal .f32) (b : Fin 4) (n : Fin 20000) (q : Ideal .f32 × BitVec 32) :
    q ∈ Host.argReduceFiber x (iotaInDim S4x20000x128 32 2) reducesTo_S4x20000x128_S4x20000_d2 (ix2 b n)
      ↔ ∃ g : Fin 128, q = (row x b n g, BitVec.ofNat 32 g.val) := by
  unfold Host.argReduceFiber
  simp only [List.mem_map, List.mem_filter, List.mem_finRange, true_and, decide_eq_true_eq]
  constructor
  · rintro ⟨k, hk, rfl⟩
    obtain ⟨g, e⟩ := (drop_iff _ b n).1 hk
    exact ⟨g, by rw [e]; rfl⟩
  · rintro ⟨g, rfl⟩
    exact ⟨S4x20000x128.rowMajor (ix3 b n g), by rw [Equiv.symm_apply_apply]; exact (drop_iff _ b n).2 ⟨g, rfl⟩, by rw [Equiv.symm_apply_apply]; rfl⟩

theorem place_toInt (g : Fin 128) : (BitVec.ofNat 32 g.val).toInt = (g.val : Int) := by
  have hg := g.isLt
  rw [BitVec.toInt_eq_toNat_of_lt (by rw [BitVec.toNat_ofNat]; omega), BitVec.toNat_ofNat]; omega

theorem neginf_eq : (FloatOps.ofBits .f32 0xFF800000#32 : Ideal .f32) = (⊥ : EReal) := by
  show Ideal.ofBits .f32 0xFF800000#32 = _
  simp [Ideal.ofBits, Ideal.ieee]

/-- The reduction to a place gives the first place of the greatest value. -/
theorem place_first (x : S4x20000x128.Idx → Ideal .f32) (b : Fin 4) (n : Fin 20000) :
    ∃ g, First (row x b n) g ∧ (Host.argReduce reducer_argmax_f32_i32 x (iotaInDim S4x20000x128 32 2) (constant S_ .f32 0xFF800000#32)
      (constantI S_ 32 0#32) reducesTo_S4x20000x128_S4x20000_d2 h_S_ (ix2 b n)).2 = BitVec.ofNat 32 g.val := by
  rw [Ideal.argReduce_eq_reduce2, Host.reduce2_eq_foldl_fiber]
  obtain ⟨hm, hb⟩ := fold_spec (Host.argReduceFiber x (iotaInDim S4x20000x128 32 2) reducesTo_S4x20000x128_S4x20000_d2 (ix2 b n))
    (constant S_ .f32 0xFF800000#32 (Shape.Idx.first h_S_), constantI S_ 32 0#32 (Shape.Idx.first h_S_))
  generalize List.foldl (reducer_argmax_f32_i32 (F := Ideal)) _ _ = r at hm hb ⊢
  have hall : ∀ g : Fin 128, Better r (row x b n g, BitVec.ofNat 32 g.val) := fun g => hb _ (List.mem_cons_of_mem _ ((mem_fiber x b n _).2 ⟨g, rfl⟩))
  have hr : ∃ g : Fin 128, r = (row x b n g, BitVec.ofNat 32 g.val) := by
    rcases List.mem_cons.1 hm with e | e
    · refine ⟨0, ?_⟩
      have h1 : r.1 = (⊥ : EReal) := by rw [e]; exact neginf_eq
      have h2 : r.2 = 0#32 := by rw [e]; rfl
      have h3 : (row x b n 0 : EReal) = ⊥ := by
        rcases hall 0 with h | h
        · rw [h1] at h; exact absurd h not_lt_bot
        · exact h.1.symm.trans h1
      exact Prod.ext (h1.trans h3.symm) h2
    · exact (mem_fiber x b n _).1 e
  obtain ⟨g, rfl⟩ := hr
  refine ⟨g, ⟨fun k => ?_, fun k hk => ?_⟩, rfl⟩
  · rcases hall k with h | h
    · exact le_of_lt h
    · exact le_of_eq h.1.symm
  · rcases hall k with h | h
    · exact h
    · have := h.2
      simp only [place_toInt] at this
      have : k.val < g.val := hk
      omega

/-- The reduction by maximum gives the greatest value. -/
theorem max_first (x : S4x20000x128.Idx → Ideal .f32) (b : Fin 4) (n : Fin 20000) (g : Fin 128) (hg : First (row x b n) g) :
    Host.reduce FloatOps.maximumf x (constant S_ .f32 0xFF800000#32) reducesTo_S4x20000x128_S4x20000_d2 h_S_ (ix2 b n) = row x b n g := by
  rw [Host.reduce_eq_fold]
  refine le_antisymm (α := EReal) ?_ ?_
  · refine (Finset.fold_max_le (β := EReal) (f := x) (b := constant (F := Ideal) S_ .f32 0xFF800000#32 (Shape.Idx.first h_S_)) _).2 ⟨?_, fun i hi => ?_⟩
    · exact le_of_eq_of_le neginf_eq bot_le
    · obtain ⟨k, rfl⟩ := (drop_iff i b n).1 (Finset.mem_filter.1 hi).2
      exact hg.1 k
  · exact (Finset.le_fold_max (β := EReal) (f := x) (b := constant (F := Ideal) S_ .f32 0xFF800000#32 (Shape.Idx.first h_S_)) _).2
      (Or.inr ⟨ix3 b n g, Finset.mem_filter.2 ⟨Finset.mem_univ _, (drop_iff _ b n).2 ⟨g, rfl⟩⟩, le_rfl⟩)

end Cert.Proof.Ref

end
-- ==== Proof.Ref.Results.lean ====
/-
  The reference's three results at the extended reals, element by element: those of the kernel.
-/
module

public import proofs.«01_k».proof.Proof.Ref.Reads
public import proofs.«01_k».proof.Proof.Ref.Fold

@[expose] public section

noncomputable section

namespace Cert.Proof.Ref

open Cert.ReferenceIdeal Cert.ReferenceIdeal.Gen Idealize.ShloMosaic Idealize.ShloMosaic.TcCoe Idealize.SL.Sem Idealize.ShloMosaic.StableHlo
open Cert.Proof.Values

/-! ## The buffers after each list of operations -/

section

variable {F : FTy → Type} [FloatOps F] (V : Valuation τ sig (Elt F))

def W1 : Valuation τ sig (Elt F) := after opsSign V
def W2 : Valuation τ sig (Elt F) := after opsSides (W1 V)
def W3 : Valuation τ sig (Elt F) := after opsPick (W2 V)
def W4 : Valuation τ sig (Elt F) := after opsRatio (W3 V)
def W5 : Valuation τ sig (Elt F) := after opsBest (W4 V)
def W6 : Valuation τ sig (Elt F) := after opsBox (W5 V)
def W7 : Valuation τ sig (Elt F) := after opsLabel (W6 V)
def W8 : Valuation τ sig (Elt F) := after opsOut (W7 V)

theorem after_ops : after ops V = W8 V := by
  simp only [ops, opsFirst, opsSecond, after_append, after_nil, W1, W2, W3, W4, W5, W6, W7, W8]

/-- A buffer that a list does not write is after it as it was before. -/
theorem W1_keep (b : Ref sig .tc) (h : b ∉ opsSignW) : W1 V (Proc.devRef .tc b) = V (Proc.devRef .tc b) := after_of_writes_sub opsSign V opsSign_writes h
theorem W2_keep (b : Ref sig .tc) (h : b ∉ opsSidesW) : W2 V (Proc.devRef .tc b) = W1 V (Proc.devRef .tc b) := after_of_writes_sub opsSides _ opsSides_writes h
theorem W3_keep (b : Ref sig .tc) (h : b ∉ opsPickW) : W3 V (Proc.devRef .tc b) = W2 V (Proc.devRef .tc b) := after_of_writes_sub opsPick _ opsPick_writes h
theorem W4_keep (b : Ref sig .tc) (h : b ∉ opsRatioW) : W4 V (Proc.devRef .tc b) = W3 V (Proc.devRef .tc b) := after_of_writes_sub opsRatio _ opsRatio_writes h
theorem W5_keep (b : Ref sig .tc) (h : b ∉ opsBestW) : W5 V (Proc.devRef .tc b) = W4 V (Proc.devRef .tc b) := after_of_writes_sub opsBest _ opsBest_writes h
theorem W6_keep (b : Ref sig .tc) (h : b ∉ opsBoxW) : W6 V (Proc.devRef .tc b) = W5 V (Proc.devRef .tc b) := after_of_writes_sub opsBox _ opsBox_writes h
theorem W7_keep (b : Ref sig .tc) (h : b ∉ opsLabelW) : W7 V (Proc.devRef .tc b) = W6 V (Proc.devRef .tc b) := after_of_writes_sub opsLabel _ opsLabel_writes h

/-- What the first list makes of the labels and boxes stays until the results. -/
theorem W5_first (b : Ref sig .tc) (h : b ∉ opsSidesW ++ (opsPickW ++ (opsRatioW ++ opsBestW))) : W5 V (Proc.devRef .tc b) = W1 V (Proc.devRef .tc b) := by
  simp only [List.mem_append, not_or] at h
  rw [W5_keep V b h.2.2.2, W4_keep V b h.2.2.1, W3_keep V b h.2.1, W2_keep V b h.1]

theorem W7_fifth (b : Ref sig .tc) (h : b ∉ opsBoxW ++ opsLabelW) : W7 V (Proc.devRef .tc b) = W5 V (Proc.devRef .tc b) := by
  simp only [List.mem_append, not_or] at h
  rw [W7_keep V b h.2, W6_keep V b h.1]

end

/-! ## The values, at the extended reals -/

section

variable (V : Valuation τ sig (Elt Ideal))

/-- A region's centre and extents, its box and its label from stage one, and a batch's ground truths. -/
def region (b : Fin 4) (n : Fin 20000) : Fin 6 → Ideal .f32 := fun c => V (main_arg0 : DevRef τ sig) (ix3 b n ⟨c.val, by omega⟩)
def firstBox (b : Fin 4) (n : Fin 20000) : Fin 7 → Ideal .f32 := fun c => V (main_arg3 : DevRef τ sig) (ix3 b n c)
def stage (b : Fin 4) (n : Fin 20000) : BitVec 32 := V (main_arg4 : DevRef τ sig) (ix2 b n)
def truth (b : Fin 4) : Fin 128 → Fin 7 → Ideal .f32 := fun g c => V (main_arg1 : DevRef τ sig) (ix3 b g c)
def truthLabel (b : Fin 4) : Fin 128 → BitVec 32 := fun g => V (main_arg2 : DevRef τ sig) (ix2 b g)

/-- A factor of one or minus one gives the coordinate its sign. -/
theorem flip_mul (c : Fin 7) (x : Ideal .f32) : FloatOps.mulf x (flip c) = sgn c x := by
  unfold flip sgn
  by_cases h : c = 6
  · rw [if_pos h, if_pos h]
    have e : (Scalar.ofBits .f32 0xBF800000#32 : Ideal .f32) = ((-1 : ℝ) : EReal) := neg1_eq
    have z : (zero : Ideal .f32) = (0 : EReal) := Ideal.ofBits_zero_f32
    rw [e, z]
    show (x : EReal) * ((-1 : ℝ) : EReal) = (0 : EReal) - (x : EReal)
    rw [zero_sub, EReal.coe_neg, EReal.coe_one, mul_neg, mul_one]
  · rw [if_neg h, if_neg h]
    have e : (Scalar.ofBits .f32 0x3F800000#32 : Ideal .f32) = (1 : EReal) := Ideal.ofBits_one_f32
    rw [e]
    exact mul_one (x : EReal)

theorem W1_truth (b : Fin 4) (g : Fin 128) (c : Fin 7) : W1 V (main_v5 : DevRef τ sig) (ix3 b g c) = sgn c (truth V b g c) :=
  (flipped_at V b g c).trans (flip_mul c _)

theorem W1_given (b : Fin 4) (n : Fin 20000) (c : Fin 7) : W1 V (main_v8 : DevRef τ sig) (ix3 b n c) = sgn c (firstBox V b n c) :=
  (assigned_at V b n c).trans (flip_mul c _)

theorem W1_pos (b : Fin 4) (n : Fin 20000) : W1 V (main_v10 : DevRef τ sig) (ix2 b n) = pos (stage V b n) := pos_at V b n

theorem W1_region (b : Fin 4) (n : Fin 20000) (c : Fin 6) : W1 V (main_arg0 : DevRef τ sig) (ix3 b n ⟨c.val, by omega⟩) = region V b n c :=
  congrFun (W1_keep V main_arg0 (by decide)) _

/-- A box's coordinates but the yaw are not flipped. -/
theorem W1_plain (b : Fin 4) (g : Fin 128) (c : Fin 6) : W1 V (main_v5 : DevRef τ sig) (ix3 b g ⟨c.val, by omega⟩) = truth V b g ⟨c.val, by omega⟩ := by
  rw [W1_truth]
  have hc := c.isLt
  exact if_neg fun e => by have := congrArg Fin.val e; simp at this; omega

/-- The overlap of the `k`-th intervals. -/
theorem W2_side (b : Fin 4) (n : Fin 20000) (g : Fin 128) (k : Fin 3) :
    W2 V (main_v46 : DevRef τ sig) (ix4 b n g k)
      = side (hi (region V b n ⟨k.val, by omega⟩) (region V b n ⟨3 + k.val, by omega⟩)) (hi (truth V b g ⟨k.val, by omega⟩) (truth V b g ⟨3 + k.val, by omega⟩))
        (lo (region V b n ⟨k.val, by omega⟩) (region V b n ⟨3 + k.val, by omega⟩)) (lo (truth V b g ⟨k.val, by omega⟩) (truth V b g ⟨3 + k.val, by omega⟩)) := by
  refine (sides_at (W1 V) b n g k).trans ?_
  have h1 := W1_region V b n ⟨k.val, by omega⟩
  have h2 := W1_region V b n ⟨3 + k.val, by omega⟩
  have h3 := W1_plain V b g ⟨k.val, by omega⟩
  have h4 := W1_plain V b g ⟨3 + k.val, by omega⟩
  rw [h1, h2, h3, h4]
  exact max_comm (α := EReal) _ _

theorem W3_zeroth (b : Fin 4) (n : Fin 20000) (g : Fin 128) :
    W3 V (main_v48 : DevRef τ sig) (ix3 b n g) = W2 V (main_v46 : DevRef τ sig) (ix4 b n g 0) := pick0_at (W2 V) b n g
theorem W3_first (b : Fin 4) (n : Fin 20000) (g : Fin 128) :
    W3 V (main_v50 : DevRef τ sig) (ix3 b n g) = W2 V (main_v46 : DevRef τ sig) (ix4 b n g 1) := pick1_at (W2 V) b n g
theorem W3_second (b : Fin 4) (n : Fin 20000) (g : Fin 128) :
    W3 V (main_v46 : DevRef τ sig) (ix4 b n g 2) = W2 V (main_v46 : DevRef τ sig) (ix4 b n g 2) := congrFun (W3_keep V main_v46 (by decide)) _

theorem W3_region (b : Fin 4) (n : Fin 20000) (c : Fin 6) : W3 V (main_arg0 : DevRef τ sig) (ix3 b n ⟨c.val, by omega⟩) = region V b n c := by
  rw [W3_keep V main_arg0 (by decide), W2_keep V main_arg0 (by decide), W1_region]

theorem W3_plain (b : Fin 4) (g : Fin 128) (c : Fin 6) : W3 V (main_v5 : DevRef τ sig) (ix3 b g ⟨c.val, by omega⟩) = truth V b g ⟨c.val, by omega⟩ := by
  rw [W3_keep V main_v5 (by decide), W2_keep V main_v5 (by decide), W1_plain]

/-- Intersection over union is the kernel's. -/
theorem W4_ratio (b : Fin 4) (n : Fin 20000) (g : Fin 128) :
    W4 V (main_v81 : DevRef τ sig) (ix3 b n g) = iouT (region V b n) (der (truth V b g)) := by
  refine (ratio_at (W3 V) b n g).trans ?_
  have r3 := W3_region V b n 3
  have r4 := W3_region V b n 4
  have r5 := W3_region V b n 5
  have t3 := W3_plain V b g 3
  have t4 := W3_plain V b g 4
  have t5 := W3_plain V b g 5
  rw [W3_zeroth, W3_first, W3_second, W2_side, W2_side, W2_side]
  refine (congr (congrArg FloatOps.hostDivf rfl) ?_).trans (rfl : FloatOps.hostDivf (inter (region V b n) (der (truth V b g))) _ = _)
  exact congrArg₂ FloatOps.addf (congrArg₂ FloatOps.subf (congrArg₂ FloatOps.addf
    (congr (congr (congrArg vol r3) r4) r5) (congr (congr (congrArg vol t3) t4) t5)) rfl) rfl

/-- The region's overlaps with the boxes. -/
theorem row_ratio (b : Fin 4) (n : Fin 20000) : row (W4 V (main_v81 : DevRef τ sig)) b n = fun g => iouT (region V b n) (der (truth V b g)) :=
  funext fun g => W4_ratio V b n g

/-- The first place of the greatest overlap. -/
theorem place_exists (b : Fin 4) (n : Fin 20000) : ∃ g, First (fun g => iouT (region V b n) (der (truth V b g))) g
    ∧ W5 V (main_v83 : DevRef τ sig) (ix2 b n) = BitVec.ofNat 32 g.val := by
  obtain ⟨g, hg, e⟩ := place_first (W4 V (main_v81 : DevRef τ sig)) b n
  exact ⟨g, row_ratio V b n ▸ hg, (place_at (W4 V) b n).trans e⟩

def place (b : Fin 4) (n : Fin 20000) : Fin 128 := Classical.choose (place_exists V b n)

theorem place_spec (b : Fin 4) (n : Fin 20000) : First (fun g => iouT (region V b n) (der (truth V b g))) (place V b n)
    ∧ W5 V (main_v83 : DevRef τ sig) (ix2 b n) = BitVec.ofNat 32 (place V b n).val := Classical.choose_spec (place_exists V b n)

/-- The greatest overlap. -/
theorem W5_max (b : Fin 4) (n : Fin 20000) : W5 V (main_v82 : DevRef τ sig) (ix2 b n) = iouT (region V b n) (der (truth V b (place V b n))) := by
  refine (max_at (W4 V) b n).trans ((max_first (W4 V (main_v81 : DevRef τ sig)) b n (place V b n) ?_).trans (W4_ratio V b n _))
  rw [row_ratio]; exact (place_spec V b n).1

/-- The condition of stage two is the kernel's, and where it holds the place is the kernel's. -/
theorem two_agree (b : Fin 4) (n : Fin 20000) :
    IntOp.andi (~~~pos (stage V b n)) (FloatOps.cmpf .oge (iouT (region V b n) (der (truth V b (place V b n)))) (thr : Ideal .f32))
        = two (stage V b n) (best (region V b n) (truth V b)).1
      ∧ (two (stage V b n) (best (region V b n) (truth V b)).1 = 1#1 → (best (region V b n) (truth V b)).2 = place V b n) := by
  obtain ⟨hc, hp⟩ := scan_first (fun g => iouT (region V b n) (der (truth V b g))) (place V b n) (place_spec V b n).1
  unfold best two
  rw [hc]
  refine ⟨?_, fun h => hp ?_⟩
  · generalize pos (stage V b n) = p
    have hn : ∀ p : BitVec 1, ~~~p = IntOp.xori p 1#1 := by decide
    rw [hn]
  · have ha : ∀ a c : BitVec 1, IntOp.andi a c = 1#1 → c = 1#1 := by decide
    exact ha _ _ h

/-- A choice does not depend on what it would be where it is not made. -/
theorem pick_congr {α : Type} (p t : BitVec 1) (a b b' c : α) (h : t = 1#1 → b = b') : pick p t a b c = pick p t a b' c := by
  unfold pick
  rcases BitVec.eq_zero_or_eq_one t with e | e
  · rw [e]; rfl
  · rw [h e]

theorem W7_pos (b : Fin 4) (n : Fin 20000) : W7 V (main_v10 : DevRef τ sig) (ix2 b n) = pos (stage V b n) := by
  rw [W7_fifth V main_v10 (by decide), W5_first V main_v10 (by decide), W1_pos]

theorem W7_max (b : Fin 4) (n : Fin 20000) : W7 V (main_v82 : DevRef τ sig) (ix2 b n) = iouT (region V b n) (der (truth V b (place V b n))) := by
  rw [W7_fifth V main_v82 (by decide), W5_max]

theorem W7_given (b : Fin 4) (n : Fin 20000) (c : Fin 7) : W7 V (main_v8 : DevRef τ sig) (ix3 b n c) = sgn c (firstBox V b n c) := by
  rw [W7_fifth V main_v8 (by decide), W5_first V main_v8 (by decide), W1_given]

theorem W7_stage (b : Fin 4) (n : Fin 20000) : W7 V (main_arg4 : DevRef τ sig) (ix2 b n) = stage V b n := by
  rw [W7_fifth V main_arg4 (by decide), W5_first V main_arg4 (by decide), W1_keep V main_arg4 (by decide)]; rfl

theorem W7_box (b : Fin 4) (n : Fin 20000) (c : Fin 7) : W7 V (main_v90 : DevRef τ sig) (ix3 b n c) = sgn c (truth V b (place V b n) c) := by
  rw [W7_keep V main_v90 (by decide)]
  refine (box_at (W5 V) b n c (place V b n) (place_spec V b n).2).trans ?_
  rw [W5_first V main_v5 (by decide), W1_truth]

theorem W7_label (b : Fin 4) (n : Fin 20000) : W7 V (main_v91 : DevRef τ sig) (ix2 b n) = truthLabel V b (place V b n) := by
  refine (label_at (W6 V) b n (place V) fun b n => ?_).trans ?_
  · rw [W6_keep V main_v83 (by decide)]; exact (place_spec V b n).2
  · rw [W6_keep V main_arg2 (by decide), W5_first V main_arg2 (by decide), W1_keep V main_arg2 (by decide)]; rfl

/-- The assigned boxes. -/
theorem boxes_value (b : Fin 4) (n : Fin 20000) (c : Fin 7) :
    after ops V (main_v99 : DevRef τ sig) (ix3 b n c) = outBox (region V b n) (firstBox V b n) (stage V b n) (truth V b) c := by
  rw [after_ops]
  refine (outBox_at (W7 V) b n c).trans ?_
  rw [W7_pos, W7_max, W7_given, W7_box, (two_agree V b n).1]
  exact pick_congr _ _ _ _ _ _ fun h => by rw [(two_agree V b n).2 h]

/-- The assigned labels. -/
theorem labels_value (b : Fin 4) (n : Fin 20000) :
    after ops V (main_v101 : DevRef τ sig) (ix2 b n) = outLab (region V b n) (stage V b n) (truth V b) (truthLabel V b) := by
  rw [after_ops]
  refine (outLab_at (W7 V) b n).trans ?_
  rw [W7_pos, W7_max, W7_stage, W7_label, (two_agree V b n).1]
  exact pick_congr _ _ _ _ _ _ fun h => by rw [(two_agree V b n).2 h]

/-- A bit as a float is the same whether it is read unsigned or extended to a word and read signed. -/
theorem bit_float (w : BitVec 1) : (FloatOps.uitofp .f32 w : Ideal .f32) = FloatOps.sitofp .f32 (w.setWidth 32) := by
  have h : (w.setWidth 32).toInt = (w.toNat : Int) := by revert w; decide
  show ((w.toNat : ℝ) : EReal) = (((w.setWidth 32).toInt : ℝ) : EReal)
  rw [h]; simp

/-- The masks. -/
theorem masks_value (b : Fin 4) (n : Fin 20000) :
    after ops V (main_v103 : DevRef τ sig) (ix2 b n) = outMask (region V b n) (stage V b n) (truth V b) := by
  rw [after_ops]
  refine (outMask_at (W7 V) b n).trans ?_
  rw [W7_pos, W7_max, (two_agree V b n).1]
  exact bit_float _

end

end Cert.Proof.Ref

end
-- ==== Proof.Match.lean ====
/-
  The value claim: from memories that agree on the arguments the kernel and the reference end with equal results, the
  floats read as extended reals.
-/
module

public import proofs.«01_k».proof.Defs
public import proofs.«01_k».proof.Proof.Ideal.Run
public import proofs.«01_k».proof.Proof.Ideal.Results
public import proofs.«01_k».proof.Proof.Ref.Frame
public import proofs.«01_k».proof.Proof.Ref.Results

@[expose] public section

noncomputable section

namespace Cert.Proof

open Idealize.ShloMosaic Idealize.ShloMosaic.TcCoe Idealize.SL.Sem Idealize.ShloMosaic.StableHlo

/-- Two arrays are equal that agree at each region, and at each coordinate of each region. -/
theorem ext2 {α : Type} {p q : ℕ} (f g : (⟨2, ![p, q]⟩ : Shape).Idx → α) (h : ∀ b n, f (ix2 b n) = g (ix2 b n)) : f = g :=
  funext fun j => by rw [eq_ix2 j]; exact h _ _

theorem ext3 {α : Type} {p q r : ℕ} (f g : (⟨3, ![p, q, r]⟩ : Shape).Idx → α) (h : ∀ b n c, f (ix3 b n c) = g (ix3 b n c)) : f = g :=
  funext fun j => by rw [eq_ix3 j]; exact h _ _ _

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (d : Dev Cert.KernelIdeal.nD)

/-- The two memories hold the same arguments on a device. -/
abbrev Agree : Prop :=
  m' ((d.tc : Thread Cert.ReferenceIdeal.nD Cert.ReferenceIdeal.τ).loc Cert.ReferenceIdeal.main_arg0) = m ((d.tc : Thread Cert.KernelIdeal.nD Cert.KernelIdeal.τ).loc Cert.KernelIdeal.main_arg0)
  ∧ m' ((d.tc : Thread Cert.ReferenceIdeal.nD Cert.ReferenceIdeal.τ).loc Cert.ReferenceIdeal.main_arg1) = m ((d.tc : Thread Cert.KernelIdeal.nD Cert.KernelIdeal.τ).loc Cert.KernelIdeal.main_arg1)
  ∧ m' ((d.tc : Thread Cert.ReferenceIdeal.nD Cert.ReferenceIdeal.τ).loc Cert.ReferenceIdeal.main_arg2) = m ((d.tc : Thread Cert.KernelIdeal.nD Cert.KernelIdeal.τ).loc Cert.KernelIdeal.main_arg2)
  ∧ m' ((d.tc : Thread Cert.ReferenceIdeal.nD Cert.ReferenceIdeal.τ).loc Cert.ReferenceIdeal.main_arg3) = m ((d.tc : Thread Cert.KernelIdeal.nD Cert.KernelIdeal.τ).loc Cert.KernelIdeal.main_arg3)
  ∧ m' ((d.tc : Thread Cert.ReferenceIdeal.nD Cert.ReferenceIdeal.τ).loc Cert.ReferenceIdeal.main_arg4) = m ((d.tc : Thread Cert.KernelIdeal.nD Cert.KernelIdeal.τ).loc Cert.KernelIdeal.main_arg4)
  ∧ m' ((d.tc : Thread Cert.ReferenceIdeal.nD Cert.ReferenceIdeal.τ).loc Cert.ReferenceIdeal.main_arg5) = m ((d.tc : Thread Cert.KernelIdeal.nD Cert.KernelIdeal.τ).loc Cert.KernelIdeal.main_arg5)

variable {m m' d}

theorem region_eq (h : Agree m m' d) (b : Fin 4) (n : Fin 20000) : Ref.region (launchContents m' d) b n = Ideal.region m d b n :=
  funext fun c => congrFun h.1 (ix3 b n ⟨c.val, by omega⟩)
theorem truth_eq (h : Agree m m' d) (b : Fin 4) : Ref.truth (launchContents m' d) b = Ideal.truth m d b :=
  funext fun g => funext fun c => congrFun h.2.1 (ix3 b g c)
theorem truthLabel_eq (h : Agree m m' d) (b : Fin 4) : Ref.truthLabel (launchContents m' d) b = Ideal.truthLabel m d b :=
  funext fun g => congrFun h.2.2.1 (ix2 b g)
theorem given_eq (h : Agree m m' d) (b : Fin 4) (n : Fin 20000) : Ref.firstBox (launchContents m' d) b n = Ideal.firstBox m d b n :=
  funext fun c => congrFun h.2.2.2.1 (ix3 b n c)
theorem stage_eq (h : Agree m m' d) (b : Fin 4) (n : Fin 20000) : Ref.stage (launchContents m' d) b n = Ideal.stage m d b n :=
  congrFun h.2.2.2.2.1 (ix2 b n)

/-- The assigned boxes agree. -/
theorem boxes_match (h : Agree m m' d) :
    after Ref.ops (launchContents m' d) (Cert.ReferenceIdeal.main_v99 : DevRef Cert.ReferenceIdeal.τ Cert.ReferenceIdeal.sig)
      = Ideal.V3 m d (Cert.KernelIdeal.main_v14 : DevRef Cert.KernelIdeal.τ Cert.KernelIdeal.sig) := by
  refine ext3 (p := 4) (q := 20000) (r := 7) _ _ fun b n c => ?_
  refine (Ref.boxes_value _ b n c).trans (Eq.trans ?_ (Ideal.boxes_value m d b n c).symm)
  rw [region_eq h, truth_eq h, given_eq h, stage_eq h]

/-- The assigned labels agree. -/
theorem labels_match (h : Agree m m' d) :
    after Ref.ops (launchContents m' d) (Cert.ReferenceIdeal.main_v101 : DevRef Cert.ReferenceIdeal.τ Cert.ReferenceIdeal.sig)
      = Ideal.V3 m d (Cert.KernelIdeal.main_v16 : DevRef Cert.KernelIdeal.τ Cert.KernelIdeal.sig) := by
  refine ext2 (p := 4) (q := 20000) _ _ fun b n => ?_
  refine (Ref.labels_value _ b n).trans (Eq.trans ?_ (Ideal.labels_value m d b n).symm)
  rw [region_eq h, truth_eq h, truthLabel_eq h, stage_eq h]

/-- The masks agree. -/
theorem masks_match (h : Agree m m' d) :
    after Ref.ops (launchContents m' d) (Cert.ReferenceIdeal.main_v103 : DevRef Cert.ReferenceIdeal.τ Cert.ReferenceIdeal.sig)
      = Ideal.V3 m d (Cert.KernelIdeal.main_v18 : DevRef Cert.KernelIdeal.τ Cert.KernelIdeal.sig) := by
  refine ext2 (p := 4) (q := 20000) _ _ fun b n => ?_
  refine (Ref.masks_value _ b n).trans (Eq.trans ?_ (Ideal.masks_value m d b n).symm)
  rw [region_eq h, truth_eq h, stage_eq h]

end

/-- The value claim, of all four results. -/
theorem algebraic : Cert.algebraic_KernelIdeal_ReferenceIdeal := fun m g m' g' _ hagree =>
  ⟨fun d => m ((d.tc : Thread Cert.KernelIdeal.nD Cert.KernelIdeal.τ).loc Cert.KernelIdeal.main_arg0),
    fun d => Ideal.V3 m d (Cert.KernelIdeal.main_v14 : DevRef Cert.KernelIdeal.τ Cert.KernelIdeal.sig),
    fun d => Ideal.V3 m d (Cert.KernelIdeal.main_v16 : DevRef Cert.KernelIdeal.τ Cert.KernelIdeal.sig),
    fun d => Ideal.V3 m d (Cert.KernelIdeal.main_v18 : DevRef Cert.KernelIdeal.τ Cert.KernelIdeal.sig),
    (θ_run (Cert.KernelIdeal.defs (F := Ideal)) _ _).mono (fun r h d => by
      have held : ∀ b : Ref Cert.KernelIdeal.sig .tc, b ∈ [Cert.KernelIdeal.main_arg0, Cert.KernelIdeal.main_arg1, Cert.KernelIdeal.main_arg2,
          Cert.KernelIdeal.main_arg3, Cert.KernelIdeal.main_arg4, Cert.KernelIdeal.main_arg5] →
          r.2.mem ((d.tc : Thread Cert.KernelIdeal.nD Cert.KernelIdeal.τ).loc b) = m ((d.tc : Thread Cert.KernelIdeal.nD Cert.KernelIdeal.τ).loc b) := fun b hb =>
        (h.1 d (Ideal.at' b) (Ideal.named b (List.mem_append_left [Cert.KernelIdeal.main_v14, Cert.KernelIdeal.main_v16, Cert.KernelIdeal.main_v18] hb))).trans (Ideal.args_kept m d b hb)
      exact ⟨held _ (by decide), h.1 d _ (Ideal.named Cert.KernelIdeal.main_v14 (by decide)), h.1 d _ (Ideal.named Cert.KernelIdeal.main_v16 (by decide)),
        h.1 d _ (Ideal.named Cert.KernelIdeal.main_v18 (by decide)), held _ (by decide), held _ (by decide), held _ (by decide), held _ (by decide),
        held _ (by decide), held _ (by decide)⟩) (Ideal.run (F := Ideal) m g),
    (θ_run (Cert.ReferenceIdeal.defs (F := Ideal)) _ _).mono (fun r h d => by
      have held : ∀ b : Ref Cert.ReferenceIdeal.sig .tc, b ∈ [Cert.ReferenceIdeal.main_arg0, Cert.ReferenceIdeal.main_arg1, Cert.ReferenceIdeal.main_arg2,
          Cert.ReferenceIdeal.main_arg3, Cert.ReferenceIdeal.main_arg4, Cert.ReferenceIdeal.main_arg5] →
          r.2.mem ((d.tc : Thread Cert.ReferenceIdeal.nD Cert.ReferenceIdeal.τ).loc b) = m' ((d.tc : Thread Cert.ReferenceIdeal.nD Cert.ReferenceIdeal.τ).loc b) := fun b hb =>
        (h d b).trans (Ref.args_keep (launchContents m' d) b hb)
      exact ⟨(held _ (by decide)).trans (hagree d).1, (h d _).trans (boxes_match (hagree d)), (h d _).trans (labels_match (hagree d)), (h d _).trans (masks_match (hagree d)),
        held _ (by decide), held _ (by decide), held _ (by decide), held _ (by decide), held _ (by decide), held _ (by decide)⟩) (Ref.run (F := Ideal) m' g')⟩

end Cert.Proof

end
-- ==== Proof.lean ====
/-
  The proof of `Cert.Claim`, put together from the modules beside it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.Ref.Frame
public import proofs.«01_k».proof.Proof.Match

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, fun m g _ => Ideal.frame_run (F := Ideal) m g, Ref.frame_reference, trivial, algebraic⟩

end Cert.Proof

end
